-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "pad" .f32 0x7149F2CA#32 ⊤
  ∧ IdealRules.named_const.Statement Cert.KernelIdeal.κ "start" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x16 : Shape := ⟨2, ![1024, 16]⟩
abbrev S16x32 : Shape := ⟨2, ![16, 32]⟩
abbrev S32 : Shape := ⟨1, ![32]⟩
abbrev S100000x32 : Shape := ⟨2, ![100000, 32]⟩
abbrev S16 : Shape := ⟨1, ![16]⟩
abbrev S1x32 : Shape := ⟨2, ![1, 32]⟩
abbrev S1x16 : Shape := ⟨2, ![1, 16]⟩
abbrev S1024x32 : Shape := ⟨2, ![1024, 32]⟩
abbrev S32x100352 : Shape := ⟨2, ![32, 100352]⟩
abbrev S2048x32 : Shape := ⟨2, ![2048, 32]⟩
abbrev S32x2048 : Shape := ⟨2, ![32, 2048]⟩
abbrev S1024x1 : Shape := ⟨2, ![1024, 1]⟩
abbrev S32x512 : Shape := ⟨2, ![32, 512]⟩
abbrev S512x32 : Shape := ⟨2, ![512, 32]⟩
abbrev S1024x128 : Shape := ⟨2, ![1024, 128]⟩
abbrev S32x1024x128 : Shape := ⟨3, ![32, 1024, 128]⟩
abbrev S1x1024x128 : Shape := ⟨3, ![1, 1024, 128]⟩
abbrev S128x128 : Shape := ⟨2, ![128, 128]⟩
abbrev S1x128x128 : Shape := ⟨3, ![1, 128, 128]⟩
abbrev S1x128 : Shape := ⟨2, ![1, 128]⟩
abbrev S1024 : Shape := ⟨1, ![1024]⟩
abbrev S2000x32 : Shape := ⟨2, ![2000, 32]⟩
abbrev S1024x1024 : Shape := ⟨2, ![1024, 1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 15
  | .vmem => 22
  | .smem => 0
  | _ => 0

abbrev bufTy : (tb : Table) → Fin (tcTables nBuf tb) → BufTy
  | .hbm, ⟨0, _⟩ => ⟨S1024x16, .f32⟩
  | .hbm, ⟨1, _⟩ => ⟨S16x32, .f32⟩
  | .hbm, ⟨2, _⟩ => ⟨S32, .f32⟩
  | .hbm, ⟨3, _⟩ => ⟨S100000x32, .f32⟩
  | .hbm, ⟨4, _⟩ => ⟨S16, .f32⟩
  | .hbm, ⟨5, _⟩ => ⟨S16, .f32⟩
  | .hbm, ⟨6, _⟩ => ⟨S1x32, .f32⟩
  | .hbm, ⟨7, _⟩ => ⟨S1x16, .f32⟩
  | .hbm, ⟨8, _⟩ => ⟨S1x16, .f32⟩
  | .hbm, ⟨9, _⟩ => ⟨S1024x32, .f32⟩
  | .hbm, ⟨10, _⟩ => ⟨S32x100352, .f32⟩
  | .hbm, ⟨11, _⟩ => ⟨S1024x1, .f32⟩
  | .hbm, ⟨12, _⟩ => ⟨S100000x32, .f32⟩
  | .hbm, ⟨13, _⟩ => ⟨S100000x32, .f32⟩
  | .hbm, ⟨14, _⟩ => ⟨S1024, .f32⟩
  | .local _ .vmem, ⟨0, _⟩ => ⟨S1024x16, .f32⟩
  | .local _ .vmem, ⟨1, _⟩ => ⟨S16x32, .f32⟩
  | .local _ .vmem, ⟨2, _⟩ => ⟨S1x32, .f32⟩
  | .local _ .vmem, ⟨3, _⟩ => ⟨S1x16, .f32⟩
  | .local _ .vmem, ⟨4, _⟩ => ⟨S1x16, .f32⟩
  | .local _ .vmem, ⟨5, _⟩ => ⟨S1024x32, .f32⟩
  | .local _ .vmem, ⟨6, _⟩ => ⟨S2048x32, .f32⟩
  | .local _ .vmem, ⟨7, _⟩ => ⟨S2048x32, .f32⟩
  | .local _ .vmem, ⟨8, _⟩ => ⟨S32x2048, .f32⟩
  | .local _ .vmem, ⟨9, _⟩ => ⟨S32x2048, .f32⟩
  | .local _ .vmem, ⟨10, _⟩ => ⟨S1024x32, .f32⟩
  | .local _ .vmem, ⟨11, _⟩ => ⟨S32x512, .f32⟩
  | .local _ .vmem, ⟨12, _⟩ => ⟨S32x512, .f32⟩
  | .local _ .vmem, ⟨13, _⟩ => ⟨S1024x1, .f32⟩
  | .local _ .vmem, ⟨14, _⟩ => ⟨S512x32, .f32⟩
  | .local _ .vmem, ⟨15, _⟩ => ⟨S512x32, .f32⟩
  | .local _ .vmem, ⟨16, _⟩ => ⟨S1024x128, .f32⟩
  | .local _ .vmem, ⟨17, _⟩ => ⟨S32x1024x128, .f32⟩
  | .local _ .vmem, ⟨18, _⟩ => ⟨S2000x32, .f32⟩
  | .local _ .vmem, ⟨19, _⟩ => ⟨S1024x1, .f32⟩
  | .local _ .vmem, ⟨20, _⟩ => ⟨S1024x32, .f32⟩
  | .local _ .vmem, ⟨21, _⟩ => ⟨S2000x32, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc2_scratch1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := .none

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![196], ![false]⟩

def k2_cond2 (i : grid2.Coords) : BitVec 1 :=
  let arg0 : BitVec 32 := BitVec.ofNat 32 (i 0).val
  let c195_i32_3120 : BitVec 32 := 195#32
  let v7304 : BitVec 1 := Scalar.cmpi .eq arg0 c195_i32_3120
  let v7305 : BitVec 32 := Scalar.extui v7304
  let c0_i32_3121 : BitVec 32 := 0#32
  let v7306 : BitVec 1 := Scalar.cmpi .ne v7305 c0_i32_3121
  v7306

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2000x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2000x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]
-- ==== KernelIdeal.lean ====
variable {F : FTy → Type} [FloatOps F] [Named F]
def κ : String → Option EReal := fun
  | "pad" => some ⊤
  | "start" => some ⊤
  | _ => none
-- ==== ReferenceIdeal.lean ====
abbrev S1024x16 : Shape := ⟨2, ![1024, 16]⟩
abbrev S16x32 : Shape := ⟨2, ![16, 32]⟩
abbrev S32 : Shape := ⟨1, ![32]⟩
abbrev S100000x32 : Shape := ⟨2, ![100000, 32]⟩
abbrev S16 : Shape := ⟨1, ![16]⟩
abbrev S_ : Shape := ⟨0, ![]⟩
abbrev S1x16 : Shape := ⟨2, ![1, 16]⟩
abbrev S1024x32 : Shape := ⟨2, ![1024, 32]⟩
abbrev S1x32 : Shape := ⟨2, ![1, 32]⟩
abbrev S1024x1x32 : Shape := ⟨3, ![1024, 1, 32]⟩
abbrev S1x100000x32 : Shape := ⟨3, ![1, 100000, 32]⟩
abbrev S1024x100000x32 : Shape := ⟨3, ![1024, 100000, 32]⟩
abbrev S1024x100000 : Shape := ⟨2, ![1024, 100000]⟩
abbrev S1024 : Shape := ⟨1, ![1024]⟩
abbrev S1024x1 : Shape := ⟨2, ![1024, 1]⟩

abbrev nBuf : Space → Nat
  | .hbm => 85
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x32, .f32⟩
  | .hbm, ⟨2, _⟩ => ⟨S32, .f32⟩
  | .hbm, ⟨3, _⟩ => ⟨S100000x32, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .i1⟩
  | .hbm, ⟨9, _⟩ => ⟨S_, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S1x16, .i1⟩
  | .hbm, ⟨14, _⟩ => ⟨S1x16, .f32⟩
  | .hbm, ⟨15, _⟩ => ⟨S1024x16, .f32⟩
  | .hbm, ⟨16, _⟩ => ⟨S1024x16, .f32⟩
  | .hbm, ⟨17, _⟩ => ⟨S1x16, .f32⟩
  | .hbm, ⟨18, _⟩ => ⟨S1024x16, .f32⟩
  | .hbm, ⟨19, _⟩ => ⟨S1024x16, .f32⟩
  | .hbm, ⟨20, _⟩ => ⟨S_, .f32⟩
  | .hbm, ⟨21, _⟩ => ⟨S_, .f32⟩
  | .hbm, ⟨22, _⟩ => ⟨S1024x16, .i1⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x1x32, .f32⟩
  | .hbm, ⟨31, _⟩ => ⟨S1x100000x32, .f32⟩
  | .hbm, ⟨32, _⟩ => ⟨S1024x100000x32, .f32⟩
  | .hbm, ⟨33, _⟩ => ⟨S1024x100000x32, .f32⟩
  | .hbm, ⟨34, _⟩ => ⟨S1024x100000x32, .f32⟩
  | .hbm, ⟨35, _⟩ => ⟨S1024x100000x32, .f32⟩
  | .hbm, ⟨36, _⟩ => ⟨S_, .f32⟩
  | .hbm, ⟨37, _⟩ => ⟨S1024x100000, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .i1⟩
  | .hbm, ⟨43, _⟩ => ⟨S1024, .i32⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S_, .i1⟩
  | .hbm, ⟨66, _⟩ => ⟨S1024, .i1⟩
  | .hbm, ⟨67, _⟩ => ⟨S1024, .i1⟩
  | .hbm, ⟨68, _⟩ => ⟨S1024, .i1⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S_, .i32⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S1024, .i32⟩
  | .hbm, ⟨78, _⟩ => ⟨S1024, .i1⟩
  | .hbm, ⟨79, _⟩ => ⟨S_, .i32⟩
  | .hbm, ⟨80, _⟩ => ⟨S1024, .i32⟩
  | .hbm, ⟨81, _⟩ => ⟨S1024, .i32⟩
  | .hbm, ⟨82, _⟩ => ⟨S1024, .i32⟩
  | .hbm, ⟨83, _⟩ => ⟨S1024x1, .i32⟩
  | .hbm, ⟨84, _⟩ => ⟨S100000x32, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_call0_c : Ref sig .tc := ⟨.hbm, 44, rfl⟩
abbrev main_call2_call0_v0 : Ref sig .tc := ⟨.hbm, 45, rfl⟩
abbrev main_v27 : Ref sig .tc := ⟨.hbm, 46, rfl⟩
abbrev main_c : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_call3_v0 : Ref sig .tc := ⟨.hbm, 51, rfl⟩
abbrev main_call3_c : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_c_1 : Ref sig .tc := ⟨.hbm, 58, rfl⟩
abbrev main_call3_v5 : Ref sig .tc := ⟨.hbm, 59, rfl⟩
abbrev main_call3_v6 : Ref sig .tc := ⟨.hbm, 60, rfl⟩
abbrev main_call3_c_2 : Ref sig .tc := ⟨.hbm, 61, rfl⟩
abbrev main_call3_v7 : Ref sig .tc := ⟨.hbm, 62, rfl⟩
abbrev main_call3_v8 : Ref sig .tc := ⟨.hbm, 63, rfl⟩
abbrev main_call3_c_3 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_v30 : Ref sig .tc := ⟨.hbm, 71, rfl⟩
abbrev main_c_6 : Ref sig .tc := ⟨.hbm, 72, rfl⟩
abbrev main_call4_v0 : Ref sig .tc := ⟨.hbm, 73, rfl⟩
abbrev main_call4_v1 : Ref sig .tc := ⟨.hbm, 74, rfl⟩
abbrev main_v31 : Ref sig .tc := ⟨.hbm, 75, rfl⟩
abbrev main_c_7 : Ref sig .tc := ⟨.hbm, 76, rfl⟩
abbrev main_v32 : Ref sig .tc := ⟨.hbm, 77, rfl⟩
abbrev main_v33 : Ref sig .tc := ⟨.hbm, 78, rfl⟩
abbrev main_c_8 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩

abbrev nD : Nat := 1
abbrev τ : Topo := Topo.v7x

variable {F : FTy → Type} [FloatOps F]
-- ==== Proof.DistBody.lean ====
module

public import proofs.«01_k».proof.Proof.Gen.KernelIdeal.Skeleton
public import proofs.«01_k».proof.Proof.Gen.KernelIdeal.Launch
public import Idealize.ShloMosaic.Lib.Tactic

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The rounds' resource algebra, used twice: by the launch and by the regions' own cells. -/
abbrev UR (nD : Nat) (τ : Topo) : Type := URounds (GSem nD τ sig) Unit
abbrev UU (nD : Nat) (τ : Topo) : Type := UR nD τ × UR nD τ

local notation "𝕄" => MT nD τ sig Unit (Elt F) ℕ (UU nD τ) ℕ

/-- A memref's buffer on core `c`. -/
abbrev Bf (c : Dev nD) {sp : Space} {S : Shape} {e : EltTy} (M : Memref sig .tc sp S e) : Type := Buf (Elt F) (M.view.loc (c : Thread nD τ))
/-- The memref's elements held outright, its buffer's contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- What the distance body leaves in the four buffers it writes, with the run that leaves it: from the six buffers held
    whole at any contents the body runs to its return and hands them back, the two inputs as they were. -/
def distRun (c : Dev nD) (i : grid2.Coords)
    (M1 : Memref sig .tc .vmem S1024x32 .f32) (h1 : M1.IsWhole) (M2 : Memref sig .tc .vmem S32x512 .f32) (h2 : M2.IsWhole)
    (M3 : Memref sig .tc .vmem S1024x1 .f32) (h3 : M3.IsWhole) (M4 : Memref sig .tc .vmem S512x32 .f32) (h4 : M4.IsWhole)
    (M5 : Memref sig .tc .vmem S1024x128 .f32) (h5 : M5.IsWhole) (M6 : Memref sig .tc .vmem S32x1024x128 .f32) (h6 : M6.IsWhole)
    (f1 : Bf (F := F) c M1) (f2 : Bf (F := F) c M2) (f3 : Bf (F := F) c M3) (f4 : Bf (F := F) c M4)
    (f5 : Bf (F := F) c M5) (f6 : Bf (F := F) c M6) :
    { W : Bf (F := F) c M3 × Bf (F := F) c M4 × Bf (F := F) c M5 × Bf (F := F) c M6 //
      ∀ (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 W.1 ∗ pt c M4 W.2.1 ∗ pt c M5 W.2.2.1 ∗ pt c M6 W.2.2.2) -∗ Q ⟨⟩))
        ⊢ wp frame (wpE (defs₀ (F := F)) Variants.none c none) E
            (cc2__dist_kernel i M1 h1 M2 h2 M3 h3 M4 h4 M5 h5 M6 h6) Q } := by
  refine ⟨⟨?_, ?_, ?_, ?_⟩, fun E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexact H5
    iexact H6

end Cert.KernelIdeal.Body

end
-- ==== Proof.DistValue.lean ====
module

public import proofs.«01_k».proof.Proof.DistBody
public import Idealize.ShloMosaic.Lib.ValueIdx
public import Idealize.ShloMosaic.Lib.ValueLayout

@[expose] public section

set_option maxRecDepth 16384

noncomputable section

namespace Cert.KernelIdeal.Body

open Cert.KernelIdeal Cert.KernelIdeal.Gen
open Idealize.ShloMosaic
open Idealize.ShloMosaic.TcCoe
open Idealize.ShloMosaic.ValueIdx
open Idealize.SL.Sem

variable {F : FTy → Type} [FloatOps F] [Named F]

/-- "This is the first grid point", as the distance body tests it. -/
abbrev first (i : grid2.Coords) : Prop :=
  Scalar.cmpi .ne (Scalar.extui (Scalar.cmpi .eq (BitVec.ofNat 32 (i 0).val) 0#32) : BitVec 32) 0#32 = 1#1

theorem slices_ok (d : Fin 32) (ct : Fin 4) : S32x512.Slices ![d.val, 128 * ct.val] S1x128 := by revert d ct; decide
theorem inb_B (d : Fin 32) (q : Fin 8) : ∀ a, (![d.val, 128 * q.val, 0] : Fin 3 → Nat) a + S1x128x128.size a ≤ S32x1024x128.size a := by
  revert d q; decide
theorem inb_A (q : Fin 8) : ∀ a, (![128 * q.val, 0] : Fin 2 → Nat) a + S128x128.size a ≤ S1024x128.size a := by revert q; decide
theorem inb_E (d : Fin 32) : ∀ a, (![0, d.val] : Fin 2 → Nat) a + S1024x1.size a ≤ S1024x32.size a := by revert d; decide
theorem inb_C (d : Fin 32) : ∀ a, (![d.val, 0, 0] : Fin 3 → Nat) a + S1x1024x128.size a ≤ S32x1024x128.size a := by revert d; decide

/-- One coordinate's distances between a chunk's 128 rows and a tile's 128 columns. -/
def term (v11 : FVec F S32x512 .f32) (s : Vec F S1x128x128 .f32) (d : Fin 32) (ct : Fin 4) : FVec F S128x128 .f32 :=
  absf (subf (shapeCast S128x128 s shapeCasts_S1x128x128_S128x128)
    (broadcastTo S128x128 (extractStridedSlice S1x128 ![d.val, 128 * ct.val] v11 (slices_ok d ct)) broadcasts_S1x128_S128x128))

/-- A sum of blocks, first to last, from the zero block. -/
def accTo (t : Fin 32 → FVec F S128x128 .f32) : (n : ℕ) → n ≤ 32 → FVec F S128x128 .f32
  | 0, _ => broadcast S128x128 (Scalar.ofBits .f32 0x00000000#32)
  | n + 1, h => addf (accTo t n (Nat.le_of_succ_le h)) (t ⟨n, h⟩)

/-- The sums for one tile of columns. -/
abbrev tile (v11 : FVec F S32x512 .f32) (s : Fin 32 → Vec F S1x128x128 .f32) (ct : Fin 4) : FVec F S128x128 .f32 :=
  accTo (fun d => term v11 (s d) d ct) 32 le_rfl

/-- What the body stores in one chunk of the running minima. -/
def chunk (i : grid2.Coords) (v11 : FVec F S32x512 .f32) (s : Fin 32 → Vec F S1x128x128 .f32) (old : Vec F S128x128 .f32) :
    FVec F S128x128 .f32 :=
  shapeCast S128x128 (minimumf (Scalar.select (Scalar.cmpi .eq (BitVec.ofNat 32 (i 0).val) 0#32)
      (broadcast S128x128 (Named.named κ "start" 0x7F61B1E6#32)) old)
    (minimumf (minimumf (minimumf (tile v11 s 0) (tile v11 s 1)) (tile v11 s 2)) (tile v11 s 3))) shapeCasts_S128x128_S128x128

section
variable (c : Dev nD) (i : grid2.Coords)
    (M1 : Memref sig .tc .vmem S1024x32 .f32) (h1 : M1.IsWhole) (M2 : Memref sig .tc .vmem S32x512 .f32) (h2 : M2.IsWhole)
    (M3 : Memref sig .tc .vmem S1024x1 .f32) (h3 : M3.IsWhole) (M4 : Memref sig .tc .vmem S512x32 .f32) (h4 : M4.IsWhole)
    (M5 : Memref sig .tc .vmem S1024x128 .f32) (h5 : M5.IsWhole) (M6 : Memref sig .tc .vmem S32x1024x128 .f32) (h6 : M6.IsWhole)
    (f1 : Bf (F := F) c M1) (f2 : Bf (F := F) c M2) (f3 : Bf (F := F) c M3) (f4 : Bf (F := F) c M4)
    (f5 : Bf (F := F) c M5) (f6 : Bf (F := F) c M6)

/-- One column of the encoded batch, repeated along the lanes. -/
def col (v : Vec F S1024x1 .f32) : FVec F S1x1024x128 .f32 :=
  shapeCast S1x1024x128 (broadcastTo S1024x128 (shapeCast S1024x1 (shapeCast S1024x1 v shapeCasts_S1024x1_S1024x1)
    shapeCasts_S1024x1_S1024x1) broadcasts_S1024x1_S1024x128) shapeCasts_S1024x128_S1x1024x128

/-- The first `n` stores of the encoded batch's columns. -/
def colPieces : (n : ℕ) → n ≤ 32 → List (View.Piece (Elt F) S32x1024x128 .f32)
  | 0, _ => []
  | n + 1, h => ⟨Rect.unit (s := S32x1024x128) ![n, 0, 0] S1x1024x128.size (inb_C ⟨n, h⟩),
      col (M1.view.readAt (Elt F) (Rect.unit (s := S1024x32) ![0, n] S1024x1.size (inb_E ⟨n, h⟩)).toLoadRect f1)⟩
      :: colPieces n (Nat.le_of_succ_le h)

/-- The repeated columns' buffer after the first conditional. -/
abbrev G6 : Bf (F := F) c M6 := (distRun c i M1 h1 M2 h2 M3 h3 M4 h4 M5 h5 M6 h6 f1 f2 f3 f4 f5 f6).1.2.2.2

theorem run_cols : (distRun c i M1 h1 M2 h2 M3 h3 M4 h4 M5 h5 M6 h6 f1 f2 f3 f4 f5 f6).1.2.2.2
    = if first i then M6.view.writes (Elt F) f6 (colPieces c M1 f1 32 le_rfl) else f6 := rfl

/-- The block of columns the body read. -/
abbrev blkM : Vec F S32x512 .f32 :=
  M2.view.readAt (Elt F) (Rect.unit (s := S32x512) ![0, 0] S32x512.size inb_S32x512_S32x512_0_0).toLoadRect f2

/-- The slices of the repeated columns that chunk `q` reads. -/
abbrev slc (g6 : Bf (F := F) c M6) (q : Fin 8) (d : Fin 32) : Vec F S1x128x128 .f32 :=
  M6.view.readAt (Elt F) (Rect.unit (s := S32x1024x128) ![d.val, 128 * q.val, 0] S1x128x128.size (inb_B d q)).toLoadRect g6

/-- The old running minima that chunk `q` reads. -/
abbrev oldA (q : Fin 8) : Vec F S128x128 .f32 :=
  M5.view.readAt (Elt F) (Rect.unit (s := S1024x128) ![128 * q.val, 0] S128x128.size (inb_A q)).toLoadRect f5

/-- The first `n` stores of the running minima. -/
def accPieces (v11 : FVec F S32x512 .f32) (g6 : Bf (F := F) c M6) : (n : ℕ) → n ≤ 8 → List (View.Piece (Elt F) S1024x128 .f32)
  | 0, _ => []
  | n + 1, h => ⟨Rect.unit (s := S1024x128) ![128 * n, 0] S128x128.size (inb_A ⟨n, h⟩),
      chunk i v11 (slc c M6 g6 ⟨n, h⟩) (oldA c M5 f5 ⟨n, h⟩)⟩
      :: accPieces v11 g6 n (Nat.le_of_succ_le h)

set_option maxHeartbeats 2000000 in
theorem run_acc : (distRun c i M1 h1 M2 h2 M3 h3 M4 h4 M5 h5 M6 h6 f1 f2 f3 f4 f5 f6).1.2.2.1
    = M5.view.writes (Elt F) M5.view.junk (accPieces c i M5 M6 f5 (k2_pay40 i (blkM c M2 f2))
        (G6 c i M1 h1 M2 h2 M3 h3 M4 h4 M5 h5 M6 h6 f1 f2 f3 f4 f5 f6) 8 le_rfl) := rfl

theorem run_copy : (distRun c i M1 h1 M2 h2 M3 h3 M4 h4 M5 h5 M6 h6 f1 f2 f3 f4 f5 f6).1.2.1
    = M4.view.writes (Elt F) M4.view.junk [⟨Rect.unit (s := S512x32) ![0, 0] S512x32.size inb_S512x32_S512x32_0_0, k2_pay41 (blkM c M2 f2)⟩] := rfl

end

end Cert.KernelIdeal.Body

end
-- ==== Proof.DistSpec.lean ====
module

public import proofs.«01_k».proof.Proof.DistValue
public import Idealize.ShloMosaic.Lib.ValueLayoutCasts
public import Idealize.ShloMosaic.Lib.Tactic
public import Idealize.ShloMosaic.Lib.Pipeline.FrameBody

@[expose] public section

set_option maxRecDepth 16384

noncomputable section

namespace Cert.KernelIdeal.Body

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The stored values, element by element -/

/-- A sum of numbers, first to last, from the printed zero. -/
def sumTo (t : Fin 32 → F .f32) : (n : ℕ) → n ≤ 32 → F .f32
  | 0, _ => Scalar.ofBits .f32 0x00000000#32
  | n + 1, h => FloatOps.addf (sumTo t n (Nat.le_of_succ_le h)) (t ⟨n, h⟩)

theorem accTo_apply (t : Fin 32 → FVec F S128x128 .f32) (j : S128x128.Idx) :
    ∀ (n : ℕ) (h : n ≤ 32), accTo t n h j = sumTo (fun d => t d j) n h
  | 0, _ => rfl
  | n + 1, h => by
    show FloatOps.addf (accTo t n _ j) (t ⟨n, h⟩ j) = _
    rw [accTo_apply t j n]; rfl

/-- The column of the block that lane `l` of tile `ct` holds. -/
abbrev lane (ct : Fin 4) (l : Fin 128) : Fin 512 := ⟨128 * ct.val + l.val, by omega⟩

theorem term_apply (v11 : FVec F S32x512 .f32) (s : Vec F S1x128x128 .f32) (d : Fin 32) (ct : Fin 4) (a l : Fin 128) :
    term v11 s d ct (ix2 a l) = FloatOps.absf (FloatOps.subf (s (ix3 (0 : Fin 1) a l)) (v11 (ix2 d (lane ct l)))) := by
  unfold term
  show FloatOps.absf (FloatOps.subf (shapeCast S128x128 s shapeCasts_S1x128x128_S128x128 (ix2 a l))
    (broadcastTo S128x128 (extractStridedSlice S1x128 ![d.val, 128 * ct.val] v11 (slices_ok d ct)) broadcasts_S1x128_S128x128 (ix2 a l))) = _
  rw [shapeCast_1ab_ab_apply, broadcastTo_1b_ab_apply]
  rw [extractStridedSlice_apply _ v11 (slices_ok d ct) _ (ix2 d (lane ct l)) (fun ax => by
    match ax with
    | ⟨0, _⟩ => exact (Nat.add_zero _).symm
    | ⟨1, _⟩ => rfl)]

/-- The distance between row `r` of the repeated columns `B` and column `128 ct + l` of `M`. -/
def dist1 (M : FVec F S32x512 .f32) (B : Vec F S32x1024x128 .f32) (r : Fin 1024) (l : Fin 128) (ct : Fin 4) : F .f32 :=
  sumTo (fun d => FloatOps.absf (FloatOps.subf (B (ix3 d r l)) (M (ix2 d (lane ct l))))) 32 le_rfl

/-- The running minima after a block. -/
def accOf (i : grid2.Coords) (M : FVec F S32x512 .f32) (B : Vec F S32x1024x128 .f32) (A : Vec F S1024x128 .f32) :
    Vec F S1024x128 .f32 := fun y =>
  FloatOps.minimumf (Scalar.select (Scalar.cmpi .eq (BitVec.ofNat 32 (i 0).val) 0#32) (Named.named κ "start" 0x7F61B1E6#32 : F .f32) (A y))
    (FloatOps.minimumf (FloatOps.minimumf (FloatOps.minimumf (dist1 M B (y 0) (y 1) 0) (dist1 M B (y 0) (y 1) 1))
      (dist1 M B (y 0) (y 1) 2)) (dist1 M B (y 0) (y 1) 3))

theorem tile_apply (M : FVec F S32x512 .f32) (B : Vec F S32x1024x128 .f32) (s : Fin 32 → Vec F S1x128x128 .f32) (r : Fin 1024)
    (a l : Fin 128) (hs : ∀ d, s d (ix3 (0 : Fin 1) a l) = B (ix3 d r l)) (ct : Fin 4) :
    tile M s ct (ix2 a l) = dist1 M B r l ct := by
  unfold tile dist1
  rw [accTo_apply]
  congr 1
  funext d
  rw [term_apply, hs]

theorem chunk_apply (i : grid2.Coords) (M : FVec F S32x512 .f32) (B : Vec F S32x1024x128 .f32) (A : Vec F S1024x128 .f32)
    (s : Fin 32 → Vec F S1x128x128 .f32) (old : Vec F S128x128 .f32) (r : Fin 1024) (a l : Fin 128)
    (hs : ∀ d, s d (ix3 (0 : Fin 1) a l) = B (ix3 d r l)) (ho : old (ix2 a l) = A (ix2 r l)) :
    chunk i M s old (ix2 a l) = accOf i M B A (ix2 r l) := by
  unfold chunk
  rw [shapeCast_self]
  show FloatOps.minimumf ((Scalar.select (Scalar.cmpi .eq (BitVec.ofNat 32 (i 0).val) 0#32)
      (broadcast S128x128 (Named.named κ "start" 0x7F61B1E6#32)) old : FVec F S128x128 .f32) (ix2 a l))
    (FloatOps.minimumf (FloatOps.minimumf (FloatOps.minimumf (tile M s 0 (ix2 a l)) (tile M s 1 (ix2 a l))) (tile M s 2 (ix2 a l)))
      (tile M s 3 (ix2 a l))) = _
  rw [tile_apply M B s r a l hs, tile_apply M B s r a l hs, tile_apply M B s r a l hs, tile_apply M B s r a l hs]
  unfold accOf
  congr 1
  unfold Scalar.select
  split
  · rfl
  · exact ho

theorem col_apply (v : Vec F S1024x1 .f32) (u : Fin 1) (r : Fin 1024) (l : Fin 128) : col v (ix3 u r l) = v (ix2 r (0 : Fin 1)) := by
  unfold col
  rw [shapeCast_ab_1ab_apply, shapeCast_self, shapeCast_self]
  exact broadcastTo_apply v _ (ix2 r l) (ix2 r (0 : Fin 1)) fun ax => by
    match ax with
    | ⟨0, _⟩ => rfl
    | ⟨1, _⟩ => rfl

/-- The encoded batch `E`, each entry repeated along the 128 lanes. -/
def spread (E : Vec F S1024x32 .f32) : Vec F S32x1024x128 .f32 := fun x => E (ix2 (x 1) (x 0))

/-- The repeated columns the body works with: built at the first grid point, kept afterwards. -/
def colsOf (i : grid2.Coords) (E : Vec F S1024x32 .f32) (B : Vec F S32x1024x128 .f32) : Vec F S32x1024x128 .f32 :=
  if first i then spread E else B

/-- The loss output after a block. -/
def lossOf (i : grid2.Coords) (A' : Vec F S1024x128 .f32) (L : Vec F S1024x1 .f32) : Vec F S1024x1 .f32 :=
  if k2_cond2 i = 1#1 then k2_pay2 A' else L

section
variable (c : Dev nD) (i : grid2.Coords)
    (M1 : Memref sig .tc .vmem S1024x32 .f32) (h1 : M1.IsWhole) (M2 : Memref sig .tc .vmem S32x512 .f32) (h2 : M2.IsWhole)
    (M3 : Memref sig .tc .vmem S1024x1 .f32) (h3 : M3.IsWhole) (M4 : Memref sig .tc .vmem S512x32 .f32) (h4 : M4.IsWhole)
    (M5 : Memref sig .tc .vmem S1024x128 .f32) (h5 : M5.IsWhole) (M6 : Memref sig .tc .vmem S32x1024x128 .f32) (h6 : M6.IsWhole)
    (f1 : Bf (F := F) c M1) (f2 : Bf (F := F) c M2) (f3 : Bf (F := F) c M3) (f4 : Bf (F := F) c M4)
    (f5 : Bf (F := F) c M5) (f6 : Bf (F := F) c M6)

/-- The run leaves in the loss buffer the row minima when the last block is done, else what it held. -/
theorem run_loss : (distRun c i M1 h1 M2 h2 M3 h3 M4 h4 M5 h5 M6 h6 f1 f2 f3 f4 f5 f6).1.1
    = if k2_cond2 i = 1#1 then M3.view.writes (Elt F) f3 [⟨Rect.unit (s := S1024x1) ![0, 0] S1024x1.size inb_S1024x1_S1024x1_0_0,
        k2_pay2 (M5.view.readAt (Elt F) (Rect.unit (s := S1024x128) ![0, 0] S1024x128.size inb_S1024x128_S1024x128_0_0).toLoadRect
          (distRun c i M1 h1 M2 h2 M3 h3 M4 h4 M5 h5 M6 h6 f1 f2 f3 f4 f5 f6).1.2.2.1)⟩] else f3 := rfl

theorem readAt_whole {n m : ℕ} {e : EltTy} {sp : Space} (M : Memref sig .tc sp ⟨2, ![n, m]⟩ e) (f : Bf (F := F) c M)
    (h : ∀ a, (![0, 0] : Fin 2 → Nat) a + (![n, m] : Fin 2 → Nat) a ≤ (![n, m] : Fin 2 → Nat) a) :
    M.view.readAt (Elt F) (Rect.unit (s := ⟨2, ![n, m]⟩) ![0, 0] ![n, m] h).toLoadRect f = M.view.read (Elt F) f := by
  funext x
  show M.view.read (Elt F) f _ = _
  congr 1
  funext a
  refine Fin.ext ?_
  match a with
  | ⟨0, _⟩ => show 0 + 1 * _ = _; omega
  | ⟨1, _⟩ => show 0 + 1 * _ = _; omega

theorem read_whole {n m : ℕ} {e : EltTy} {sp : Space} (M : Memref sig .tc sp ⟨2, ![n, m]⟩ e) (f : Bf (F := F) c M)
    (h : ∀ a, (![0, 0] : Fin 2 → Nat) a + (![n, m] : Fin 2 → Nat) a ≤ (![n, m] : Fin 2 → Nat) a)
    (w : (⟨2, ![n, m]⟩ : Shape).Idx → Elt F e) :
    M.view.read (Elt F) (M.view.writes (Elt F) f [⟨Rect.unit (s := ⟨2, ![n, m]⟩) ![0, 0] ![n, m] h, w⟩]) = w := by
  funext y
  refine View.read_writes_apply_of_pieces _ _ w _ (fun p hp x => ?_) y ⟨_, List.mem_singleton_self _, ?_⟩
  · obtain rfl := List.mem_singleton.mp hp
    show w x = w _
    congr 1
    funext a
    refine Fin.ext ?_
    match a with
    | ⟨0, _⟩ => show _ = 0 + 1 * _; omega
    | ⟨1, _⟩ => show _ = 0 + 1 * _; omega
  · rw [Rect.mem_set_unit]
    intro a
    match a with
    | ⟨0, _⟩ => exact ⟨Nat.zero_le _, by show _ < 0 + n; have := (y 0).isLt; exact (Nat.zero_add n).symm ▸ this⟩
    | ⟨1, _⟩ => exact ⟨Nat.zero_le _, by show _ < 0 + m; have := (y 1).isLt; exact (Nat.zero_add m).symm ▸ this⟩

theorem colPieces_val : ∀ (n : ℕ) (h : n ≤ 32), ∀ p ∈ colPieces c M1 f1 n h, ∀ x : p.1.shape.Idx,
    p.2 x = spread (M1.view.read (Elt F) f1) (p.1.emb x)
  | 0, _, p, hp, _ => absurd hp List.not_mem_nil
  | n + 1, h, p, hp, x => by
    rcases List.mem_cons.mp hp with rfl | hp
    · obtain ⟨u, r, l, rfl⟩ : ∃ (u : Fin 1) (r : Fin 1024) (l : Fin 128), x = ix3 u r l := ⟨x 0, x 1, x 2, eq_ix3 (n0 := 1) (n1 := 1024) (n2 := 128) x⟩
      have hc := col_apply (F := F) (M1.view.readAt (Elt F) (Rect.unit (s := S1024x32) ![0, n] S1024x1.size (inb_E ⟨n, h⟩)).toLoadRect f1) u r l
      refine Eq.trans hc ?_
      show M1.view.read (Elt F) f1 _ = M1.view.read (Elt F) f1 _
      congr 1
      funext a
      refine Fin.ext ?_
      match a with
      | ⟨0, _⟩ => show 0 + 1 * r.val = 0 + 1 * r.val; rfl
      | ⟨1, _⟩ => show n + 1 * 0 = n + 1 * u.val; omega
    · exact colPieces_val n _ p hp x

theorem colPieces_cover (y : S32x1024x128.Idx) : ∀ (n : ℕ) (h : n ≤ 32), (y 0).val < n → ∃ p ∈ colPieces c M1 f1 n h, y ∈ p.1.set
  | 0, _, hy => absurd hy (Nat.not_lt_zero _)
  | n + 1, h, hy => by
    by_cases h0 : (y 0).val = n
    · refine ⟨_, List.mem_cons_self, ?_⟩
      rw [Rect.mem_set_unit]
      intro a
      match a with
      | ⟨0, _⟩ => exact ⟨h0.ge, by show (y 0).val < n + 1; omega⟩
      | ⟨1, _⟩ => exact ⟨Nat.zero_le _, by show (y 1).val < 0 + 1024; exact (Nat.zero_add 1024).symm ▸ (y 1).isLt⟩
      | ⟨2, _⟩ => exact ⟨Nat.zero_le _, by show (y 2).val < 0 + 128; exact (Nat.zero_add 128).symm ▸ (y 2).isLt⟩
    · obtain ⟨p, hp, hm⟩ := colPieces_cover y n (Nat.le_of_succ_le h) (by omega)
      exact ⟨p, List.mem_cons_of_mem _ hp, hm⟩

/-- What the repeated columns' buffer reads after the run. -/
theorem read_cols : M6.view.read (Elt F) (distRun c i M1 h1 M2 h2 M3 h3 M4 h4 M5 h5 M6 h6 f1 f2 f3 f4 f5 f6).1.2.2.2
    = colsOf i (M1.view.read (Elt F) f1) (M6.view.read (Elt F) f6) := by
  rw [run_cols]
  unfold colsOf
  split
  · funext y
    exact View.read_writes_apply_of_pieces _ _ _ _ (colPieces_val c M1 f1 32 le_rfl) y (colPieces_cover c M1 f1 y 32 le_rfl (y 0).isLt)
  · rfl

theorem accPieces_val (M : FVec F S32x512 .f32) (g6 : Bf (F := F) c M6) : ∀ (n : ℕ) (h : n ≤ 8),
    ∀ p ∈ accPieces c i M5 M6 f5 M g6 n h, ∀ x : p.1.shape.Idx,
    p.2 x = accOf i M (M6.view.read (Elt F) g6) (M5.view.read (Elt F) f5) (p.1.emb x)
  | 0, _, p, hp, _ => absurd hp List.not_mem_nil
  | n + 1, h, p, hp, x => by
    rcases List.mem_cons.mp hp with rfl | hp
    · obtain ⟨a, l, rfl⟩ : ∃ (a : Fin 128) (l : Fin 128), x = ix2 a l := ⟨x 0, x 1, eq_ix2 (n0 := 128) (n1 := 128) x⟩
      have hr : 128 * n + a.val < 1024 := by have := a.isLt; omega
      have he : (Rect.unit (s := S1024x128) ![128 * n, 0] S128x128.size (inb_A ⟨n, h⟩)).emb (ix2 a l) = ix2 (⟨128 * n + a.val, hr⟩ : Fin 1024) l := by
        funext b
        refine Fin.ext ?_
        match b with
        | ⟨0, _⟩ => show 128 * n + 1 * a.val = 128 * n + a.val; omega
        | ⟨1, _⟩ => show 0 + 1 * l.val = l.val; omega
      show chunk i M _ _ (ix2 a l) = accOf i M _ _ ((Rect.unit (s := S1024x128) ![128 * n, 0] S128x128.size (inb_A ⟨n, h⟩)).emb (ix2 a l))
      rw [he]
      refine chunk_apply i M _ _ _ _ _ a l (fun d => ?_) ?_
      · show M6.view.read (Elt F) g6 _ = M6.view.read (Elt F) g6 _
        congr 1
        funext b
        refine Fin.ext ?_
        match b with
        | ⟨0, _⟩ => show d.val + 1 * 0 = d.val; omega
        | ⟨1, _⟩ => show 128 * n + 1 * a.val = 128 * n + a.val; omega
        | ⟨2, _⟩ => show 0 + 1 * l.val = l.val; omega
      · exact congrArg (M5.view.read (Elt F) f5) he
    · exact accPieces_val M g6 n _ p hp x

theorem accPieces_cover (M : FVec F S32x512 .f32) (g6 : Bf (F := F) c M6) (y : S1024x128.Idx) : ∀ (n : ℕ) (h : n ≤ 8),
    (y 0).val < 128 * n → ∃ p ∈ accPieces c i M5 M6 f5 M g6 n h, y ∈ p.1.set
  | 0, _, hy => absurd hy (Nat.not_lt_zero _)
  | n + 1, h, hy => by
    by_cases h0 : 128 * n ≤ (y 0).val
    · refine ⟨_, List.mem_cons_self, ?_⟩
      rw [Rect.mem_set_unit]
      intro a
      match a with
      | ⟨0, _⟩ => exact ⟨h0, by show (y 0).val < 128 * n + 128; omega⟩
      | ⟨1, _⟩ => exact ⟨Nat.zero_le _, by show (y 1).val < 0 + 128; exact (Nat.zero_add 128).symm ▸ (y 1).isLt⟩
    · obtain ⟨p, hp, hm⟩ := accPieces_cover M g6 y n (Nat.le_of_succ_le h) (by omega)
      exact ⟨p, List.mem_cons_of_mem _ hp, hm⟩

/-- What the running minima's buffer reads after the run. -/
theorem read_acc : M5.view.read (Elt F) (distRun c i M1 h1 M2 h2 M3 h3 M4 h4 M5 h5 M6 h6 f1 f2 f3 f4 f5 f6).1.2.2.1
    = accOf i (k2_pay40 i (M2.view.read (Elt F) f2)) (colsOf i (M1.view.read (Elt F) f1) (M6.view.read (Elt F) f6))
        (M5.view.read (Elt F) f5) := by
  rw [run_acc]
  have hb : blkM c M2 f2 = M2.view.read (Elt F) f2 := readAt_whole c M2 f2 _
  rw [hb, ← read_cols c i M1 h1 M2 h2 M3 h3 M4 h4 M5 h5 M6 h6 f1 f2 f3 f4 f5 f6]
  funext y
  exact View.read_writes_apply_of_pieces _ _ _ _ (accPieces_val c i M5 M6 f5 _ _ 8 le_rfl) y
    (accPieces_cover c i M5 M6 f5 _ _ y 8 le_rfl (y 0).isLt)

/-- What the copied block reads after the run. -/
theorem read_copy : M4.view.read (Elt F) (distRun c i M1 h1 M2 h2 M3 h3 M4 h4 M5 h5 M6 h6 f1 f2 f3 f4 f5 f6).1.2.1
    = k2_pay41 (M2.view.read (Elt F) f2) := by
  rw [run_copy]
  have hb : blkM c M2 f2 = M2.view.read (Elt F) f2 := readAt_whole c M2 f2 _
  rw [hb]
  exact read_whole c M4 _ _ _

/-- What the loss buffer reads after the run. -/
theorem read_loss : M3.view.read (Elt F) (distRun c i M1 h1 M2 h2 M3 h3 M4 h4 M5 h5 M6 h6 f1 f2 f3 f4 f5 f6).1.1
    = lossOf i (accOf i (k2_pay40 i (M2.view.read (Elt F) f2)) (colsOf i (M1.view.read (Elt F) f1) (M6.view.read (Elt F) f6))
        (M5.view.read (Elt F) f5)) (M3.view.read (Elt F) f3) := by
  rw [run_loss]
  unfold lossOf
  split
  · rw [← read_acc c i M1 h1 M2 h2 M3 h3 M4 h4 M5 h5 M6 h6 f1 f2 f3 f4 f5 f6]
    refine (read_whole c M3 _ _ _).trans (congrArg k2_pay2 ?_)
    exact readAt_whole c M5 _ _
  · rfl

end

local notation "𝕄" => MT nD τ sig Unit (Elt F) ℕ (UU nD τ) ℕ

/-- One grid point of the distance pipeline, by what its six buffers read before and after. -/
theorem dist_body (c : Dev nD) (i : grid2.Coords)
    (M1 : Memref sig .tc .vmem S1024x32 .f32) (h1 : M1.IsWhole) (M2 : Memref sig .tc .vmem S32x512 .f32) (h2 : M2.IsWhole)
    (M3 : Memref sig .tc .vmem S1024x1 .f32) (h3 : M3.IsWhole) (M4 : Memref sig .tc .vmem S512x32 .f32) (h4 : M4.IsWhole)
    (M5 : Memref sig .tc .vmem S1024x128 .f32) (h5 : M5.IsWhole) (M6 : Memref sig .tc .vmem S32x1024x128 .f32) (h6 : M6.IsWhole)
    (X1 : Vec F S1024x32 .f32) (X2 : Vec F S32x512 .f32) (X3 : Vec F S1024x1 .f32) (X4 : Vec F S512x32 .f32)
    (X5 : Vec F S1024x128 .f32) (X6 : Vec F S32x1024x128 .f32) : ∀ E : Set ℕ,
    (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6) : sProp 𝕄)
      ⊢ wp frame (wpE (defs₀ (F := F)) Variants.none c none) E (cc2__dist_kernel i M1 h1 M2 h2 M3 h3 M4 h4 M5 h5 M6 h6)
        fun _ => iprop(owns (c : Thread nD τ) M1 fullShare X1 ∗ owns (c : Thread nD τ) M2 fullShare X2
        ∗ owns (c : Thread nD τ) M3 fullShare (lossOf i (accOf i (k2_pay40 i X2) (colsOf i X1 X6) X5) X3)
        ∗ owns (c : Thread nD τ) M4 fullShare (k2_pay41 X2)
        ∗ owns (c : Thread nD τ) M5 fullShare (accOf i (k2_pay40 i X2) (colsOf i X1 X6) X5)
        ∗ owns (c : Thread nD τ) M6 fullShare (colsOf i X1 X6)) := by
  intro E
  unfold owns
  iintro ⟨⟨%f1, %e1, H1⟩, ⟨%f2, %e2, H2⟩, ⟨%f3, %e3, H3⟩, ⟨%f4, %e4, H4⟩, ⟨%f5, %e5, H5⟩, ⟨%f6, %e6, H6⟩⟩
  subst e1 e2 e3 e4 e5 e6
  iapply (distRun c i M1 h1 M2 h2 M3 h3 M4 h4 M5 h5 M6 h6 f1 f2 f3 f4 f5 f6).2 E
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  isplitl [H1]
  · iexists f1; isplitr; · ipureintro; rfl
    iexact H1
  isplitl [H2]
  · iexists f2; isplitr; · ipureintro; rfl
    iexact H2
  isplitl [H3]
  · iexists _; isplitr [H3]; · ipureintro; exact read_loss c i M1 h1 M2 h2 M3 h3 M4 h4 M5 h5 M6 h6 f1 f2 f3 f4 f5 f6
    iexact H3
  isplitl [H4]
  · iexists _; isplitr [H4]; · ipureintro; exact read_copy c i M1 h1 M2 h2 M3 h3 M4 h4 M5 h5 M6 h6 f1 f2 f3 f4 f5 f6
    iexact H4
  isplitl [H5]
  · iexists _; isplitr [H5]; · ipureintro; exact read_acc c i M1 h1 M2 h2 M3 h3 M4 h4 M5 h5 M6 h6 f1 f2 f3 f4 f5 f6
    iexact H5
  · iexists _; isplitr [H6]; · ipureintro; exact read_cols c i M1 h1 M2 h2 M3 h3 M4 h4 M5 h5 M6 h6 f1 f2 f3 f4 f5 f6
    iexact H6

end Cert.KernelIdeal.Body

end
-- ==== Proof.SmallBodies.lean ====
module

public import proofs.«01_k».proof.Proof.DistSpec
public import Idealize.ShloMosaic.Lib.ValueLayoutCasts
public import Idealize.ShloMosaic.Lib.Tactic
public import Idealize.ShloMosaic.Lib.Pipeline.FrameBody

@[expose] public section

set_option maxRecDepth 16384

noncomputable section

namespace Cert.KernelIdeal.Body

open Cert.KernelIdeal Cert.KernelIdeal.Gen
open Idealize.ShloMosaic
open Idealize.ShloMosaic.TcCoe
open Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## The encoder's body -/

/-- What the encoder's body leaves in its output, with the run that leaves it. -/
def encRun (c : Dev nD)
    (M0 : Memref sig .tc .vmem S1024x16 .f32) (h0 : M0.IsWhole) (M1 : Memref sig .tc .vmem S16x32 .f32) (h1 : M1.IsWhole)
    (M2 : Memref sig .tc .vmem S1x32 .f32) (h2 : M2.IsWhole) (M3 : Memref sig .tc .vmem S1x16 .f32) (h3 : M3.IsWhole)
    (M4 : Memref sig .tc .vmem S1x16 .f32) (h4 : M4.IsWhole) (M5 : Memref sig .tc .vmem S1024x32 .f32) (h5 : M5.IsWhole)
    (f0 : Bf (F := F) c M0) (f1 : Bf (F := F) c M1) (f2 : Bf (F := F) c M2) (f3 : Bf (F := F) c M3)
    (f4 : Bf (F := F) c M4) (f5 : Bf (F := F) c M5) :
    { W : Bf (F := F) c M5 // ∀ (E : Set ℕ) (Q : PUnit → sProp 𝕄),
        iprop(pt c M0 f0 ∗ pt c M1 f1 ∗ pt c M2 f2 ∗ pt c M3 f3 ∗ pt c M4 f4 ∗ pt c M5 f5
          ∗ (iprop(pt c M0 f0 ∗ pt c M1 f1 ∗ pt c M2 f2 ∗ pt c M3 f3 ∗ pt c M4 f4 ∗ pt c M5 W) -∗ Q ⟨⟩))
        ⊢ wp frame (wpE (defs₀ (F := F)) Variants.none c none) E
            (cc0__enc_kernel M0 h0 M1 h1 M2 h2 M3 h3 M4 h4 M5 h5) Q } := by
  refine ⟨?_, fun E Q => ?run⟩
  case run =>
    iintro ⟨H0, H1, H2, H3, H4, H5, Hk⟩
    sl_exec_parts!
    sl_step
    iapply Hk
    isplitl [H0]; · iexact H0
    isplitl [H1]; · iexact H1
    isplitl [H2]; · iexact H2
    isplitl [H3]; · iexact H3
    isplitl [H4]; · iexact H4
    iexact H5

theorem read_enc (c : Dev nD)
    (M0 : Memref sig .tc .vmem S1024x16 .f32) (h0 : M0.IsWhole) (M1 : Memref sig .tc .vmem S16x32 .f32) (h1 : M1.IsWhole)
    (M2 : Memref sig .tc .vmem S1x32 .f32) (h2 : M2.IsWhole) (M3 : Memref sig .tc .vmem S1x16 .f32) (h3 : M3.IsWhole)
    (M4 : Memref sig .tc .vmem S1x16 .f32) (h4 : M4.IsWhole) (M5 : Memref sig .tc .vmem S1024x32 .f32) (h5 : M5.IsWhole)
    (f0 : Bf (F := F) c M0) (f1 : Bf (F := F) c M1) (f2 : Bf (F := F) c M2) (f3 : Bf (F := F) c M3)
    (f4 : Bf (F := F) c M4) (f5 : Bf (F := F) c M5) :
    M5.view.read (Elt F) (encRun c M0 h0 M1 h1 M2 h2 M3 h3 M4 h4 M5 h5 f0 f1 f2 f3 f4 f5).1
      = k0_pay1 (M4.view.read (Elt F) f4) (M0.view.read (Elt F) f0) (M3.view.read (Elt F) f3) (M1.view.read (Elt F) f1)
          (M2.view.read (Elt F) f2) := by
  have e0 : M0.view.readAt (Elt F) (Rect.unit (s := S1024x16) ![0, 0] S1024x16.size inb_S1024x16_S1024x16_0_0).toLoadRect f0
    = M0.view.read (Elt F) f0 := readAt_whole c M0 f0 _
  have e1 : M1.view.readAt (Elt F) (Rect.unit (s := S16x32) ![0, 0] S16x32.size inb_S16x32_S16x32_0_0).toLoadRect f1
    = M1.view.read (Elt F) f1 := readAt_whole c M1 f1 _
  have e2 : M2.view.readAt (Elt F) (Rect.unit (s := S1x32) ![0, 0] S1x32.size inb_S1x32_S1x32_0_0).toLoadRect f2
    = M2.view.read (Elt F) f2 := readAt_whole c M2 f2 _
  have e3 : M3.view.readAt (Elt F) (Rect.unit (s := S1x16) ![0, 0] S1x16.size inb_S1x16_S1x16_0_0).toLoadRect f3
    = M3.view.read (Elt F) f3 := readAt_whole c M3 f3 _
  have e4 : M4.view.readAt (Elt F) (Rect.unit (s := S1x16) ![0, 0] S1x16.size inb_S1x16_S1x16_0_0).toLoadRect f4
    = M4.view.read (Elt F) f4 := readAt_whole c M4 f4 _
  rw [← e0, ← e1, ← e2, ← e3, ← e4]
  have hw : (encRun c M0 h0 M1 h1 M2 h2 M3 h3 M4 h4 M5 h5 f0 f1 f2 f3 f4 f5).1 = M5.view.writes (Elt F) M5.view.junk
      [⟨Rect.unit (s := S1024x32) ![0, 0] S1024x32.size inb_S1024x32_S1024x32_0_0, k0_pay1
        (M4.view.readAt (Elt F) (Rect.unit (s := S1x16) ![0, 0] S1x16.size inb_S1x16_S1x16_0_0).toLoadRect f4)
        (M0.view.readAt (Elt F) (Rect.unit (s := S1024x16) ![0, 0] S1024x16.size inb_S1024x16_S1024x16_0_0).toLoadRect f0)
        (M3.view.readAt (Elt F) (Rect.unit (s := S1x16) ![0, 0] S1x16.size inb_S1x16_S1x16_0_0).toLoadRect f3)
        (M1.view.readAt (Elt F) (Rect.unit (s := S16x32) ![0, 0] S16x32.size inb_S16x32_S16x32_0_0).toLoadRect f1)
        (M2.view.readAt (Elt F) (Rect.unit (s := S1x32) ![0, 0] S1x32.size inb_S1x32_S1x32_0_0).toLoadRect f2)⟩] := by
    have hv : encRun.sl.v23 (F := F) c M0 M1 M2 M3 M4 f0 f1 f2 f3 f4 = k0_pay1
        (M4.view.readAt (Elt F) (Rect.unit (s := S1x16) ![0, 0] S1x16.size inb_S1x16_S1x16_0_0).toLoadRect f4)
        (M0.view.readAt (Elt F) (Rect.unit (s := S1024x16) ![0, 0] S1024x16.size inb_S1024x16_S1024x16_0_0).toLoadRect f0)
        (M3.view.readAt (Elt F) (Rect.unit (s := S1x16) ![0, 0] S1x16.size inb_S1x16_S1x16_0_0).toLoadRect f3)
        (M1.view.readAt (Elt F) (Rect.unit (s := S16x32) ![0, 0] S16x32.size inb_S16x32_S16x32_0_0).toLoadRect f1)
        (M2.view.readAt (Elt F) (Rect.unit (s := S1x32) ![0, 0] S1x32.size inb_S1x32_S1x32_0_0).toLoadRect f2) := rfl
    dsimp only [encRun, encRun.sl.H5_1]
    rw [hv]
  rw [hw]
  exact read_whole c M5 _ inb_S1024x32_S1024x32_0_0 _

theorem enc_body (c : Dev nD)
    (M0 : Memref sig .tc .vmem S1024x16 .f32) (h0 : M0.IsWhole) (M1 : Memref sig .tc .vmem S16x32 .f32) (h1 : M1.IsWhole)
    (M2 : Memref sig .tc .vmem S1x32 .f32) (h2 : M2.IsWhole) (M3 : Memref sig .tc .vmem S1x16 .f32) (h3 : M3.IsWhole)
    (M4 : Memref sig .tc .vmem S1x16 .f32) (h4 : M4.IsWhole) (M5 : Memref sig .tc .vmem S1024x32 .f32) (h5 : M5.IsWhole)
    (X0 : Vec F S1024x16 .f32) (X1 : Vec F S16x32 .f32) (X2 : Vec F S1x32 .f32) (X3 : Vec F S1x16 .f32) (X4 : Vec F S1x16 .f32)
    (X5 : Vec F S1024x32 .f32) : ∀ E : Set ℕ,
    (iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5) : sProp 𝕄)
      ⊢ wp frame (wpE (defs₀ (F := F)) Variants.none c none) E (cc0__enc_kernel M0 h0 M1 h1 M2 h2 M3 h3 M4 h4 M5 h5)
        fun _ => iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4
        ∗ owns (c : Thread nD τ) M5 fullShare (k0_pay1 X4 X0 X3 X1 X2)) := by
  intro E
  unfold owns
  iintro ⟨⟨%f0, %e0, H0⟩, ⟨%f1, %e1, H1⟩, ⟨%f2, %e2, H2⟩, ⟨%f3, %e3, H3⟩, ⟨%f4, %e4, H4⟩, ⟨%f5, %e5, H5⟩⟩
  subst e0 e1 e2 e3 e4 e5
  iapply (encRun c M0 h0 M1 h1 M2 h2 M3 h3 M4 h4 M5 h5 f0 f1 f2 f3 f4 f5).2 E
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  · iexists _; isplitr [H5]
    · ipureintro
      exact read_enc c M0 h0 M1 h1 M2 h2 M3 h3 M4 h4 M5 h5 f0 f1 f2 f3 f4 f5
    iexact H5

/-! ## The transposing body -/

/-- What the transposing body leaves in its output, with the run that leaves it. -/
def prepRun (c : Dev nD) (i : grid1.Coords)
    (M1 : Memref sig .tc .vmem S2048x32 .f32) (h1 : M1.IsWhole) (M2 : Memref sig .tc .vmem S32x2048 .f32) (h2 : M2.IsWhole)
    (f1 : Bf (F := F) c M1) (f2 : Bf (F := F) c M2) :
    { W : Bf (F := F) c M2 // ∀ (E : Set ℕ) (Q : PUnit → sProp 𝕄),
        iprop(pt c M1 f1 ∗ pt c M2 f2 ∗ (iprop(pt c M1 f1 ∗ pt c M2 W) -∗ Q ⟨⟩))
        ⊢ wp frame (wpE (defs₀ (F := F)) Variants.none c none) E (cc1__prep_kernel i M1 h1 M2 h2) Q } := by
  refine ⟨?_, fun E Q => ?run⟩
  case run =>
    iintro ⟨H1, H2, Hk⟩
    sl_exec_parts!
    sl_step
    iapply Hk
    isplitl [H1]; · iexact H1
    iexact H2

theorem read_prep (c : Dev nD) (i : grid1.Coords)
    (M1 : Memref sig .tc .vmem S2048x32 .f32) (h1 : M1.IsWhole) (M2 : Memref sig .tc .vmem S32x2048 .f32) (h2 : M2.IsWhole)
    (f1 : Bf (F := F) c M1) (f2 : Bf (F := F) c M2) :
    M2.view.read (Elt F) (prepRun c i M1 h1 M2 h2 f1 f2).1 = k1_pay1 (M1.view.read (Elt F) f1) := by
  have e1 : M1.view.readAt (Elt F) (Rect.unit (s := S2048x32) ![0, 0] S2048x32.size inb_S2048x32_S2048x32_0_0).toLoadRect f1
    = M1.view.read (Elt F) f1 := readAt_whole c M1 f1 _
  rw [← e1]
  have hw : (prepRun c i M1 h1 M2 h2 f1 f2).1 = M2.view.writes (Elt F) M2.view.junk
      [⟨Rect.unit (s := S32x2048) ![0, 0] S32x2048.size inb_S32x2048_S32x2048_0_0, k1_pay1
        (M1.view.readAt (Elt F) (Rect.unit (s := S2048x32) ![0, 0] S2048x32.size inb_S2048x32_S2048x32_0_0).toLoadRect f1)⟩] := by
    have hv : prepRun.sl.v1 (F := F) c M1 f1 = k1_pay1
        (M1.view.readAt (Elt F) (Rect.unit (s := S2048x32) ![0, 0] S2048x32.size inb_S2048x32_S2048x32_0_0).toLoadRect f1) := rfl
    dsimp only [prepRun, prepRun.sl.H2_1]
    rw [hv]
  rw [hw]
  exact read_whole c M2 _ inb_S32x2048_S32x2048_0_0 _

theorem prep_body (c : Dev nD) (i : grid1.Coords)
    (M1 : Memref sig .tc .vmem S2048x32 .f32) (h1 : M1.IsWhole) (M2 : Memref sig .tc .vmem S32x2048 .f32) (h2 : M2.IsWhole)
    (X1 : Vec F S2048x32 .f32) (X2 : Vec F S32x2048 .f32) : ∀ E : Set ℕ,
    (iprop(owns (c : Thread nD τ) M1 fullShare X1 ∗ owns (c : Thread nD τ) M2 fullShare X2) : sProp 𝕄)
      ⊢ wp frame (wpE (defs₀ (F := F)) Variants.none c none) E (cc1__prep_kernel i M1 h1 M2 h2)
        fun _ => iprop(owns (c : Thread nD τ) M1 fullShare X1 ∗ owns (c : Thread nD τ) M2 fullShare (k1_pay1 X1)) := by
  intro E
  unfold owns
  iintro ⟨⟨%f1, %e1, H1⟩, ⟨%f2, %e2, H2⟩⟩
  subst e1 e2
  iapply (prepRun c i M1 h1 M2 h2 f1 f2).2 E
  isplitl [H1]; · iexact H1
  isplitl [H2]; · iexact H2
  iintro ⟨H1, H2⟩
  isplitl [H1]
  · iexists f1; isplitr; · ipureintro; rfl
    iexact H1
  · iexists _; isplitr [H2]
    · ipureintro
      exact read_prep c i M1 h1 M2 h2 f1 f2
    iexact H2

/-! ## The last call's body -/

/-- The first 1024 rows of a block. -/
def head (X : Vec F S2000x32 .f32) : Vec F S1024x32 .f32 :=
  fun x => X (ix2 (⟨(x 0).val, Nat.lt_trans (x 0).isLt (by decide)⟩ : Fin 2000) (x 1))

/-- What the last call's body leaves in its output: the copied block, its first 1024 rows replaced. -/
def fixOf (X1 : Vec F S2000x32 .f32) (X2 : Vec F S1024x1 .f32) (X3 : Vec F S1024x32 .f32) : Vec F S2000x32 .f32 := fun y =>
  if h : (y 0).val < 1024 then k3_pay2 X2 X3 (head X1) (ix2 (⟨(y 0).val, h⟩ : Fin 1024) (y 1)) else X1 y

/-- What the last call's body leaves in its output's buffer, with the run that leaves it. -/
def fixRun (c : Dev nD) (i : grid3.Coords)
    (M1 : Memref sig .tc .vmem S2000x32 .f32) (h1 : M1.IsWhole) (M2 : Memref sig .tc .vmem S1024x1 .f32) (h2 : M2.IsWhole)
    (M3 : Memref sig .tc .vmem S1024x32 .f32) (h3 : M3.IsWhole) (M4 : Memref sig .tc .vmem S2000x32 .f32) (h4 : M4.IsWhole)
    (f1 : Bf (F := F) c M1) (f2 : Bf (F := F) c M2) (f3 : Bf (F := F) c M3) (f4 : Bf (F := F) c M4) :
    { W : Bf (F := F) c M4 // ∀ (E : Set ℕ) (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 W) -∗ Q ⟨⟩))
        ⊢ wp frame (wpE (defs₀ (F := F)) Variants.none c none) E (cc3__fix_kernel i M1 h1 M2 h2 M3 h3 M4 h4) Q } := by
  refine ⟨?_, fun E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

theorem fix_run_eq (c : Dev nD) (i : grid3.Coords)
    (M1 : Memref sig .tc .vmem S2000x32 .f32) (h1 : M1.IsWhole) (M2 : Memref sig .tc .vmem S1024x1 .f32) (h2 : M2.IsWhole)
    (M3 : Memref sig .tc .vmem S1024x32 .f32) (h3 : M3.IsWhole) (M4 : Memref sig .tc .vmem S2000x32 .f32) (h4 : M4.IsWhole)
    (f1 : Bf (F := F) c M1) (f2 : Bf (F := F) c M2) (f3 : Bf (F := F) c M3) (f4 : Bf (F := F) c M4) :
    (fixRun c i M1 h1 M2 h2 M3 h3 M4 h4 f1 f2 f3 f4).1 = M4.view.writes (Elt F) M4.view.junk
      [⟨Rect.unit (s := S2000x32) ![0, 0] S1024x32.size inb_S2000x32_S1024x32_0_0,
        k3_pay2 (M2.view.readAt (Elt F) (Rect.unit (s := S1024x1) ![0, 0] S1024x1.size inb_S1024x1_S1024x1_0_0).toLoadRect f2)
          (M3.view.readAt (Elt F) (Rect.unit (s := S1024x32) ![0, 0] S1024x32.size inb_S1024x32_S1024x32_0_0).toLoadRect f3)
          (M1.view.readAt (Elt F) (Rect.unit (s := S2000x32) ![0, 0] S1024x32.size inb_S2000x32_S1024x32_0_0).toLoadRect f1)⟩,
       ⟨Rect.unit (s := S2000x32) ![0, 0] S2000x32.size inb_S2000x32_S2000x32_0_0,
        k3_pay1 (M1.view.readAt (Elt F) (Rect.unit (s := S2000x32) ![0, 0] S2000x32.size inb_S2000x32_S2000x32_0_0).toLoadRect f1)⟩] := by
  have hv : fixRun.sl.v41 (F := F) c M1 M2 M3 f1 f2 f3 =
      k3_pay2 (M2.view.readAt (Elt F) (Rect.unit (s := S1024x1) ![0, 0] S1024x1.size inb_S1024x1_S1024x1_0_0).toLoadRect f2)
          (M3.view.readAt (Elt F) (Rect.unit (s := S1024x32) ![0, 0] S1024x32.size inb_S1024x32_S1024x32_0_0).toLoadRect f3)
          (M1.view.readAt (Elt F) (Rect.unit (s := S2000x32) ![0, 0] S1024x32.size inb_S2000x32_S1024x32_0_0).toLoadRect f1) := rfl
  have hu : fixRun.sl.v35 (F := F) c M1 f1
      = k3_pay1 (M1.view.readAt (Elt F) (Rect.unit (s := S2000x32) ![0, 0] S2000x32.size inb_S2000x32_S2000x32_0_0).toLoadRect f1) := rfl
  dsimp only [fixRun, fixRun.sl.H4_2]
  rw [hv, hu]

theorem read_fix (c : Dev nD) (i : grid3.Coords)
    (M1 : Memref sig .tc .vmem S2000x32 .f32) (h1 : M1.IsWhole) (M2 : Memref sig .tc .vmem S1024x1 .f32) (h2 : M2.IsWhole)
    (M3 : Memref sig .tc .vmem S1024x32 .f32) (h3 : M3.IsWhole) (M4 : Memref sig .tc .vmem S2000x32 .f32) (h4 : M4.IsWhole)
    (f1 : Bf (F := F) c M1) (f2 : Bf (F := F) c M2) (f3 : Bf (F := F) c M3) (f4 : Bf (F := F) c M4) :
    M4.view.read (Elt F) (fixRun c i M1 h1 M2 h2 M3 h3 M4 h4 f1 f2 f3 f4).1
      = fixOf (M1.view.read (Elt F) f1) (M2.view.read (Elt F) f2) (M3.view.read (Elt F) f3) := by
  rw [fix_run_eq]
  have e2 : M2.view.readAt (Elt F) (Rect.unit (s := S1024x1) ![0, 0] S1024x1.size inb_S1024x1_S1024x1_0_0).toLoadRect f2
    = M2.view.read (Elt F) f2 := readAt_whole c M2 f2 _
  have e3 : M3.view.readAt (Elt F) (Rect.unit (s := S1024x32) ![0, 0] S1024x32.size inb_S1024x32_S1024x32_0_0).toLoadRect f3
    = M3.view.read (Elt F) f3 := readAt_whole c M3 f3 _
  have e1 : M1.view.readAt (Elt F) (Rect.unit (s := S2000x32) ![0, 0] S2000x32.size inb_S2000x32_S2000x32_0_0).toLoadRect f1
    = M1.view.read (Elt F) f1 := readAt_whole c M1 f1 _
  have eh : M1.view.readAt (Elt F) (Rect.unit (s := S2000x32) ![0, 0] S1024x32.size inb_S2000x32_S1024x32_0_0).toLoadRect f1
    = head (M1.view.read (Elt F) f1) := by
    funext x
    show M1.view.read (Elt F) f1 _ = M1.view.read (Elt F) f1 _
    congr 1
    funext a
    refine Fin.ext ?_
    match a with
    | ⟨0, _⟩ => show 0 + 1 * (x 0).val = (x 0).val; omega
    | ⟨1, _⟩ => show 0 + 1 * (x 1).val = (x 1).val; omega
  rw [e1, e2, e3, eh]
  have ew : k3_pay1 (M1.view.read (Elt F) f1) = M1.view.read (Elt F) f1 := shapeCast_self _ _
  rw [ew]
  funext y
  by_cases hy : (y 0).val < 1024
  · have hyx : (Rect.unit (s := S2000x32) ![0, 0] S1024x32.size inb_S2000x32_S1024x32_0_0).emb (ix2 (⟨(y 0).val, hy⟩ : Fin 1024) (y 1)) = y := by
      funext a
      refine Fin.ext ?_
      match a with
      | ⟨0, _⟩ => show 0 + 1 * (y 0).val = (y 0).val; omega
      | ⟨1, _⟩ => show 0 + 1 * (y 1).val = (y 1).val; omega
    unfold fixOf
    rw [dif_pos hy]
    conv_lhs => rw [← hyx]
    rw [View.read_writes_cons_emb]
  · unfold fixOf
    rw [dif_neg hy, View.read_writes_cons_miss]
    · exact congrFun (read_whole c M4 _ inb_S2000x32_S2000x32_0_0 (M1.view.read (Elt F) f1)) y
    · rw [Rect.mem_set_unit]
      intro hh
      exact hy (by have := (hh 0).2; exact (Nat.zero_add 1024) ▸ this)

theorem fix_body (c : Dev nD) (i : grid3.Coords)
    (M1 : Memref sig .tc .vmem S2000x32 .f32) (h1 : M1.IsWhole) (M2 : Memref sig .tc .vmem S1024x1 .f32) (h2 : M2.IsWhole)
    (M3 : Memref sig .tc .vmem S1024x32 .f32) (h3 : M3.IsWhole) (M4 : Memref sig .tc .vmem S2000x32 .f32) (h4 : M4.IsWhole)
    (X1 : Vec F S2000x32 .f32) (X2 : Vec F S1024x1 .f32) (X3 : Vec F S1024x32 .f32) (X4 : Vec F S2000x32 .f32) : ∀ E : Set ℕ,
    (iprop(owns (c : Thread nD τ) M1 fullShare X1 ∗ owns (c : Thread nD τ) M2 fullShare X2 ∗ owns (c : Thread nD τ) M3 fullShare X3
        ∗ owns (c : Thread nD τ) M4 fullShare X4) : sProp 𝕄)
      ⊢ wp frame (wpE (defs₀ (F := F)) Variants.none c none) E (cc3__fix_kernel i M1 h1 M2 h2 M3 h3 M4 h4)
        fun _ => iprop(owns (c : Thread nD τ) M1 fullShare X1 ∗ owns (c : Thread nD τ) M2 fullShare X2 ∗ owns (c : Thread nD τ) M3 fullShare X3
        ∗ owns (c : Thread nD τ) M4 fullShare (fixOf X1 X2 X3)) := by
  intro E
  unfold owns
  iintro ⟨⟨%f1, %e1, H1⟩, ⟨%f2, %e2, H2⟩, ⟨%f3, %e3, H3⟩, ⟨%f4, %e4, H4⟩⟩
  subst e1 e2 e3 e4
  iapply (fixRun c i M1 h1 M2 h2 M3 h3 M4 h4 f1 f2 f3 f4).2 E
  isplitl [H1]; · iexact H1
  isplitl [H2]; · iexact H2
  isplitl [H3]; · iexact H3
  isplitl [H4]; · iexact H4
  iintro ⟨H1, H2, H3, H4⟩
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr [H4]
    · ipureintro; exact read_fix c i M1 h1 M2 h2 M3 h3 M4 h4 f1 f2 f3 f4
    iexact H4

end Cert.KernelIdeal.Body

end
-- ==== Proof.RegionData.lean ====
/- The four calls' proof data: what each window's buffer holds when a body starts and when it ends, from the contents `W` of the
   unscoped buffers at the call's start; and that each body does what its data say. -/
module

public import proofs.«01_k».proof.Proof.DistSpec
public import proofs.«01_k».proof.Proof.SmallBodies
public import proofs.«01_k».proof.Proof.Gen.KernelIdeal.Points
public import Idealize.ShloMosaic.Lib.Pipeline.FrameBody
public import Idealize.ShloMosaic.Lib.Pipeline.DatRel

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationRel)

variable {F : FTy → Type} [FloatOps F] [Named F]

local notation "𝕄" => MT nD τ sig Unit (Elt F) ℕ (UU nD τ) ℕ

/-- The contents of every buffer, per core. -/
abbrev Vals : Type := Dev nD → Valuation τ sig (Elt F)

variable (W : Vals (F := F)) (c : Dev nD)

/-! ## The encoder's call -/

/-- What window `w`'s block reads at point `t`. -/
abbrev blk0 (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The encoded batch. -/
def encBlk (t : Fin cfg0.N) : Vec F S1024x32 .f32 :=
  k0_pay1 (blk0 W c 4 t) (blk0 W c 0 t) (blk0 W c 3 t) (blk0 W c 1 t) (blk0 W c 2 t)

/-- The scoped buffers the call does not use. -/
abbrev rest0 : sProp 𝕄 := Pipeline.scopedRest (Ix := Unit) (Name := ℕ) (U := UU nD τ) (Lvl := ℕ) (Val := Elt F) spec0 c

def dat0 : Dat τ (Elt F) Unit ℕ (UU nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => encBlk W c t
  Φ _ := rest0 c
  q _ := fullShare
  owed _ := 0

theorem row0 (t : Fin cfg0.N) : defs₀ (F := F) .tc cfg0.body (cfg0.bodyArgs t (cfg0.slots t)) = bodyAt0 t := by
  unfold defs₀; rw [Defs.onTc_tc]

theorem before0_0 (t : Fin cfg0.N) (d) : (dat0 W c).before 0 t d = blk0 W c 0 t := (dat0 W c).before_fetched 0 t (fetch0_0 t) d
theorem before0_1 (t : Fin cfg0.N) (d) : (dat0 W c).before 1 t d = blk0 W c 1 t := (dat0 W c).before_fetched 1 t (fetch0_1 t) d
theorem before0_2 (t : Fin cfg0.N) (d) : (dat0 W c).before 2 t d = blk0 W c 2 t := (dat0 W c).before_fetched 2 t (fetch0_2 t) d
theorem before0_3 (t : Fin cfg0.N) (d) : (dat0 W c).before 3 t d = blk0 W c 3 t := (dat0 W c).before_fetched 3 t (fetch0_3 t) d
theorem before0_4 (t : Fin cfg0.N) (d) : (dat0 W c).before 4 t d = blk0 W c 4 t := (dat0 W c).before_fetched 4 t (fetch0_4 t) d

theorem obligation0 : BodyObligation (dat0 W c) (defs₀ (F := F)) Variants.none () Set.univ := fun t => by
  rw [bigSep_W0, bigSep_W0, row0]
  show iprop(rest0 c ∗ _) ⊢ wp _ _ _ _ fun _ => iprop(rest0 c ∗ _)
  simp only [before0_0, before0_1, before0_2, before0_3, before0_4]
  iintro ⟨HΦ, HO, ⟨%d0, H0⟩, ⟨%d1, H1⟩, ⟨%d2, H2⟩, ⟨%d3, H3⟩, ⟨%d4, H4⟩, ⟨%d5, H5⟩⟩
  have hb := enc_body (F := F) c _ (hstage0_0 0) _ (hstage0_1 0) _ (hstage0_2 0) _ (hstage0_3 0) _ (hstage0_4 0) _ (hstage0_5 0)
    (blk0 W c 0 t) (blk0 W c 1 t) (blk0 W c 2 t) (blk0 W c 3 t) (blk0 W c 4 t) ((dat0 W c).before 5 t d5) Set.univ
  iapply (wp_wand _ _ _) $$ [H0 H1 H2 H3 H4 H5]
  · iapply hb
    isplitl [H0]; · iexact H0
    isplitl [H1]; · iexact H1
    isplitl [H2]; · iexact H2
    isplitl [H3]; · iexact H3
    isplitl [H4]; · iexact H4
    iexact H5
  iintro %u ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-! ## The transposed copy's call -/

abbrev blk1 (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- A block of the memory, with `d` where the last block reaches past the array's end. -/
def memBlk (t : Fin cfg1.N) (d : Vec F S2048x32 .f32) : Vec F S2048x32 .f32 :=
  (cfg1.win 0).fill (cfg1.grid.coords t) d (blk1 W c 0 t)

def zeros2048 : Vec F S2048x32 .f32 := fun _ => Scalar.ofBits .f32 0#32

/-- The scoped buffers the call does not use. -/
abbrev rest1 : sProp 𝕄 := Pipeline.scopedRest (Ix := Unit) (Name := ℕ) (U := UU nD τ) (Lvl := ℕ) (Val := Elt F) spec1 c

def dat1 : Dat τ (Elt F) Unit ℕ (UU nD τ) ℕ cfg1 c where
  A w := W c (Proc.devRef .tc (Pipeline.arrRef spec1 w))
  after w t := match w with
    | ⟨0, _⟩ => memBlk W c t zeros2048
    | ⟨1, _⟩ => k1_pay1 (memBlk W c t zeros2048)
  Φ _ := rest1 c
  q _ := fullShare
  owed _ := 0

theorem row1 (t : Fin cfg1.N) : defs₀ (F := F) .tc cfg1.body (cfg1.bodyArgs t (cfg1.slots t)) = bodyAt1 t := by
  unfold defs₀; rw [Defs.onTc_tc]

/-- The output window is the one whose contents are related, not named: past the array's end the last block's columns are unknown. -/
def marked1 : Fin cfg1.W → Bool := fun | ⟨0, _⟩ => false | ⟨1, _⟩ => true

/-- What the output's buffer may hold after point `t`. -/
def rel1 : (w : Fin cfg1.W) → Fin cfg1.N → ((cfg1.win w).block.Idx → Elt F (cfg1.win w).elt) → Prop := fun
  | ⟨0, _⟩ => fun _ _ => True
  | ⟨1, _⟩ => fun t X => ∃ d, X = k1_pay1 (memBlk W c t d)

theorem before1_0 (t : Fin cfg1.N) (d) : (dat1 W c).before 0 t d = memBlk W c t d := (dat1 W c).before_fetched 0 t (fetch1_0 t) d

theorem obligation1 : BodyObligationRel (dat1 W c) (defs₀ (F := F)) Variants.none () Set.univ marked1 (rel1 W c) := fun t => by
  rw [bigSep_W1, bigSep_W1, row1]
  show iprop(rest1 c ∗ _ ∗ (∃ d, _) ∗ (∃ Y, _)) ⊢ wp _ _ _ _ fun _ => iprop(rest1 c ∗ _ ∗ (∃ d, _) ∗ (∃ X, _))
  simp only [before1_0]
  iintro ⟨HΦ, HO, ⟨%d0, H0⟩, ⟨%Y, -, H1⟩⟩
  have hb := prep_body (F := F) c (grid1.coords t) _ (hstage1_0 ((cfg1.slots t 0).cast nbuf1_0)) _ (hstage1_1 ((cfg1.slots t 1).cast nbuf1_1))
    (memBlk W c t d0) Y Set.univ
  iapply (wp_wand _ _ _) $$ [H0 H1]
  · iapply hb
    isplitl [H0]; · iexact H0
    iexact H1
  iintro %u ⟨H0, H1⟩
  isplitl [HΦ]; · iexact HΦ
  isplitl [HO]; · iexact HO
  isplitl [H0]
  · iexists d0
    have e : (cfg1.win 0).fill (cfg1.grid.coords t) d0 ((cfg1.win 0).cut (cfg1.grid.coords t) ((dat1 W c).after 0 t)) = memBlk W c t d0 := by
      show (cfg1.win 0).fill (cfg1.grid.coords t) d0 ((cfg1.win 0).cut (cfg1.grid.coords t) ((cfg1.win 0).fill (cfg1.grid.coords t) zeros2048 (blk1 W c 0 t))) = _
      rw [(cfg1.win 0).cut_fill]; rfl
    rw [e]
    iexact H0
  iexists k1_pay1 (memBlk W c t d0)
  isplitr
  · ipureintro; exact ⟨d0, rfl⟩
  iexact H1

/-! ## The distance call -/

abbrev blk2 (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The encoded batch as the call reads it. -/
def encIn : Vec F S1024x32 .f32 := W c (Proc.devRef .tc main_v3)

theorem blk2_0 (t : Fin cfg2.N) : blk2 W c 0 t = encIn W c := by
  funext y
  show W c (Proc.devRef .tc main_v3) ((win2_0.rect t).emb y) = W c (Proc.devRef .tc main_v3) y
  congr 1
  funext a
  refine Fin.ext ?_
  match a with
  | ⟨0, _⟩ => show 0 + 1 * _ = _; omega
  | ⟨1, _⟩ => show 0 + 1 * _ = _; omega

/-- The block of the transposed memory at point `t`. -/
def mtBlk (t : Fin cfg2.N) : Vec F S32x512 .f32 := blk2 W c 1 t

/-- The running minima before point `n`; before the first point they are not read. -/
def acc : ℕ → Vec F S1024x128 .f32
  | 0 => fun _ => Scalar.ofBits .f32 0#32
  | n + 1 => if h : n < cfg2.N then
      accOf (grid2.coords ⟨n, h⟩) (k2_pay40 (grid2.coords ⟨n, h⟩) (mtBlk W c ⟨n, h⟩)) (spread (encIn W c)) (acc n)
    else acc n

theorem acc_succ (t : Fin cfg2.N) : acc W c (t.val + 1)
    = accOf (grid2.coords t) (k2_pay40 (grid2.coords t) (mtBlk W c t)) (spread (encIn W c)) (acc W c t.val) := by
  rw [acc, dif_pos t.isLt]

theorem first_zero : ∀ t : Fin cfg2.N, first (grid2.coords t) ↔ t.val = 0 := by decide +kernel
theorem reset_zero : ∀ t : Fin cfg2.N, t.val = 0 → Scalar.cmpi .eq (BitVec.ofNat 32 (grid2.coords t 0).val) 0#32 = 1#1 := by decide +kernel
theorem cond2_flush : ∀ t : Fin cfg2.N, (cfg2.win 2).flush t = true → k2_cond2 (grid2.coords t) = 1#1 := fun t h =>
  (by decide +kernel : ∀ t : Fin cfg2.N, t.val % 196 = 195 → k2_cond2 (grid2.coords t) = 1#1) t ((flush2_2 t).mp h)

theorem accOf_first (t : Fin cfg2.N) (h : t.val = 0) (M : FVec F S32x512 .f32) (B : Vec F S32x1024x128 .f32) (A A' : Vec F S1024x128 .f32) :
    accOf (grid2.coords t) M B A = accOf (grid2.coords t) M B A' := by
  funext y
  unfold accOf
  rw [reset_zero t h]
  rfl

/-- The two scratch buffers between points, and the buffers the call leaves alone. -/
def inv2 (n : ℕ) : sProp 𝕄 :=
  iprop((∃ (A : Vec F S1024x128 .f32) (B : Vec F S32x1024x128 .f32), ⌜n ≠ 0 → A = acc W c n ∧ B = spread (encIn W c)⌝
      ∗ owns (c : Thread nD τ) (Memref.whole cc2_scratch0) fullShare A ∗ owns (c : Thread nD τ) (Memref.whole cc2_scratch1) fullShare B)
    ∗ Pipeline.scopedRestBut (Ix := Unit) (Name := ℕ) (U := UU nD τ) (Lvl := ℕ) (Val := Elt F) spec2 c [cc2_scratch0, cc2_scratch1])

def dat2 : Dat τ (Elt F) Unit ℕ (UU nD τ) ℕ cfg2 c where
  A w := W c (Proc.devRef .tc (Pipeline.arrRef spec2 w))
  after w t := match w with
    | ⟨0, _⟩ => encIn W c
    | ⟨1, _⟩ => mtBlk W c t
    | ⟨2, _⟩ => k2_pay2 (acc W c (t.val + 1))
    | ⟨3, _⟩ => k2_pay41 (mtBlk W c t)
  Φ n := inv2 W c n.val
  q _ := fullShare
  owed _ := 0

theorem row2 (t : Fin cfg2.N) : defs₀ (F := F) .tc cfg2.body (cfg2.bodyArgs t (cfg2.slots t)) = bodyAt2 t := by
  unfold defs₀; rw [Defs.onTc_tc]

theorem before2_0 (t : Fin cfg2.N) (d) : (dat2 W c).before 0 t d = encIn W c :=
  ((dat2 W c).before_in_eq_fetched 0 rfl (fun _ => rfl) (fun _ _ _ => rfl) (fun t => (blk2_0 W c t).symm) t d).trans (blk2_0 W c t)
theorem before2_1 (t : Fin cfg2.N) (d) : (dat2 W c).before 1 t d = mtBlk W c t := (dat2 W c).before_fetched 1 t (fetch2_1 t) d

theorem after2_2 (t : Fin cfg2.N) : (dat2 W c).after 2 t = k2_pay2 (acc W c (t.val + 1)) := by
  dsimp only [dat2]

/-- A match on two Booleans, entered at the case where the first is false. -/
theorem into_busy {X P Q R : sProp 𝕄} {a b : Bool} (ha : a = false) (h : X ⊢ R) :
    X ⊢ (match (generalizing := false) a with | true => (match (generalizing := false) b with | false => P | true => Q) | false => R) := by subst ha; exact h
/-- The same, at the case where the first is true and the second false. -/
theorem into_idle {X P Q R : sProp 𝕄} {a b : Bool} (ha : a = true) (hb : b = false) (h : X ⊢ P) :
    X ⊢ (match (generalizing := false) a with | true => (match (generalizing := false) b with | false => P | true => Q) | false => R) := by subst ha hb; exact h

/-- The loss output's buffer after a point: written at the last point, before that as it was. -/
theorem leave2 (t : Fin cfg2.N) (d2) : (owns (c : Thread nD τ) (st2_2 t) fullShare (lossOf (grid2.coords t) (acc W c (t.val + 1)) ((dat2 W c).before 2 t d2)) : sProp 𝕄)
    ⊢ match cfg2.idle 2 (cfg2.grid.coords t) with
      | true => (match (cfg2.win 2).flush t with
        | false => iprop(∃ d, owns (c : Thread nD τ) (st2_2 t) fullShare ((dat2 W c).before 2 t d))
        | true => owns (c : Thread nD τ) (st2_2 t) fullShare ((dat2 W c).after 2 t))
      | false => owns (c : Thread nD τ) (st2_2 t) fullShare ((dat2 W c).after 2 t) := by
  by_cases h : k2_cond2 (grid2.coords t) = 1#1
  · refine into_busy ?_ ?_
    · show (!(k2_cond2 (grid2.coords t) == 1#1)) = false
      rw [h]; rfl
    · rw [show lossOf (grid2.coords t) (acc W c (t.val + 1)) ((dat2 W c).before 2 t d2) = (dat2 W c).after 2 t from
        (if_pos h).trans (after2_2 W c t).symm]
  · refine into_idle ?_ ?_ ?_
    · show (!(k2_cond2 (grid2.coords t) == 1#1)) = true
      rw [beq_false_of_ne h]; rfl
    · exact Bool.eq_false_iff.mpr fun hf => h (cond2_flush t hf)
    · rw [show lossOf (grid2.coords t) (acc W c (t.val + 1)) ((dat2 W c).before 2 t d2) = (dat2 W c).before 2 t d2 from if_neg h]
      iintro H2
      iexists d2
      iexact H2

theorem obligation2 : BodyObligation (dat2 W c) (defs₀ (F := F)) Variants.none () Set.univ := fun t => by
  rw [bigSep_W2, bigSep_W2, row2]
  show iprop(inv2 W c t.val ∗ _) ⊢ wp _ _ _ _ fun _ => iprop(inv2 W c (t.val + 1) ∗ _)
  simp only [before2_0, before2_1]
  iintro ⟨HΦ, HO, ⟨%d0, H0⟩, ⟨%d1, H1⟩, ⟨%d2, H2⟩, ⟨%d3, H3⟩⟩
  unfold inv2
  icases HΦ with ⟨⟨%A, %B, %hAB, HA, HB⟩, HR⟩
  have hB : colsOf (grid2.coords t) (encIn W c) B = spread (encIn W c) := by
    unfold colsOf
    split
    · rfl
    · rename_i h
      exact (hAB fun h0 => h ((first_zero t).mpr h0)).2
  have hA : accOf (grid2.coords t) (k2_pay40 (grid2.coords t) (mtBlk W c t)) (spread (encIn W c)) A = acc W c (t.val + 1) := by
    rw [acc_succ]
    by_cases h0 : t.val = 0
    · exact accOf_first t h0 _ _ _ _
    · rw [(hAB h0).1]
  have hb := dist_body (F := F) c (grid2.coords t) _ (hstage2_0 ((cfg2.slots t 0).cast nbuf2_0)) _ (hstage2_1 ((cfg2.slots t 1).cast nbuf2_1))
    (st2_2 t) (hstage2_2 ((cfg2.slots t 2).cast nbuf2_2)) _ (hstage2_3 ((cfg2.slots t 3).cast nbuf2_3))
    (Memref.whole cc2_scratch0) (Memref.isWhole_whole _) (Memref.whole cc2_scratch1) (Memref.isWhole_whole _)
    (encIn W c) (mtBlk W c t) ((dat2 W c).before 2 t d2) ((dat2 W c).before 3 t d3) A B Set.univ
  rw [hB, hA] at hb
  iapply (wp_wand _ _ _) $$ [H0 H1 H2 H3 HA HB]
  · iapply hb
    isplitl [H0]; · iexact H0
    isplitl [H1]; · iexact H1
    isplitl [H2]; · iexact H2
    isplitl [H3]; · iexact H3
    isplitl [HA]; · iexact HA
    iexact HB
  iintro %u ⟨H0, H1, H2, H3, HA, HB⟩
  isplitl [HA HB HR]
  · isplitr [HR]
    · iexists (acc W c (t.val + 1)), (spread (encIn W c))
      isplitr
      · ipureintro; exact fun _ => ⟨rfl, rfl⟩
      isplitl [HA]; · iexact HA
      iexact HB
    iexact HR
  isplitl [HO]; · iexact HO
  isplitl [H0]; · iexact H0
  isplitl [H1]; · iexact H1
  isplitl [H2]
  · iapply (leave2 W c t d2) $$ H2
  iexact H3

/-! ## The call that writes the new rows -/

abbrev blk3 (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The first rows of the memory after the update. -/
def fixBlk (t : Fin cfg3.N) : Vec F S2000x32 .f32 := fixOf (blk3 W c 0 t) (blk3 W c 1 t) (blk3 W c 2 t)

/-- The scoped buffers the call does not use. -/
abbrev rest3 : sProp 𝕄 := Pipeline.scopedRest (Ix := Unit) (Name := ℕ) (U := UU nD τ) (Lvl := ℕ) (Val := Elt F) spec3 c

def dat3 : Dat τ (Elt F) Unit ℕ (UU nD τ) ℕ cfg3 c where
  A w := W c (Proc.devRef .tc (Pipeline.arrRef spec3 w))
  after w t := match w with
    | ⟨0, _⟩ => blk3 W c 0 t
    | ⟨1, _⟩ => blk3 W c 1 t
    | ⟨2, _⟩ => blk3 W c 2 t
    | ⟨3, _⟩ => fixBlk W c t
  Φ _ := rest3 c
  q _ := fullShare
  owed _ := 0

theorem row3 (t : Fin cfg3.N) : defs₀ (F := F) .tc cfg3.body (cfg3.bodyArgs t (cfg3.slots t)) = bodyAt3 t := by
  unfold defs₀; rw [Defs.onTc_tc]

theorem before3_0 (t : Fin cfg3.N) (d) : (dat3 W c).before 0 t d = blk3 W c 0 t := (dat3 W c).before_fetched 0 t (fetch3_0 t) d
theorem before3_1 (t : Fin cfg3.N) (d) : (dat3 W c).before 1 t d = blk3 W c 1 t := (dat3 W c).before_fetched 1 t (fetch3_1 t) d
theorem before3_2 (t : Fin cfg3.N) (d) : (dat3 W c).before 2 t d = blk3 W c 2 t := (dat3 W c).before_fetched 2 t (fetch3_2 t) d

theorem obligation3 : BodyObligation (dat3 W c) (defs₀ (F := F)) Variants.none () Set.univ := fun t => by
  rw [bigSep_W3, bigSep_W3, row3]
  show iprop(rest3 c ∗ _) ⊢ wp _ _ _ _ fun _ => iprop(rest3 c ∗ _)
  simp only [before3_0, before3_1, before3_2]
  iintro ⟨HΦ, HO, ⟨%d0, H0⟩, ⟨%d1, H1⟩, ⟨%d2, H2⟩, ⟨%d3, H3⟩⟩
  have hb := fix_body (F := F) c (grid3.coords t) _ (hstage3_0 ((cfg3.slots t 0).cast nbuf3_0)) _ (hstage3_1 ((cfg3.slots t 1).cast nbuf3_1))
    _ (hstage3_2 ((cfg3.slots t 2).cast nbuf3_2)) _ (hstage3_3 ((cfg3.slots t 3).cast nbuf3_3))
    (blk3 W c 0 t) (blk3 W c 1 t) (blk3 W c 2 t) ((dat3 W c).before 3 t d3) Set.univ
  iapply (wp_wand _ _ _) $$ [H0 H1 H2 H3]
  · iapply hb
    isplitl [H0]; · iexact H0
    isplitl [H1]; · iexact H1
    isplitl [H2]; · iexact H2
    iexact H3
  iintro %u ⟨H0, H1, H2, H3⟩
  isplitl [HΦ]; · iexact HΦ
  isplitl [HO]; · iexact HO
  isplitl [H0]; · iexact H0
  isplitl [H1]; · iexact H1
  isplitl [H2]; · iexact H2
  iexact H3

end Cert.KernelIdeal.Body

end
-- ==== Proof.Steps.lean ====
/- A run of the program as a chain of steps on the contents of the unscoped buffers. Each call is a step that changes its arrays only,
   to contents that its proof data allow; each stretch of host operations applies the operations. -/
module

public import proofs.«01_k».proof.Proof.RegionData
public import proofs.«01_k».proof.Proof.Gen.KernelIdeal.Regions
public import Idealize.ShloMosaic.Lib.Pipeline.RegionArraysF
public import Idealize.ShloMosaic.Lib.Pipeline.Regions

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg Seg PLaunchFacts)

variable {F : FTy → Type} [FloatOps F] [Named F]

local notation "𝕄" => MT nD τ sig Unit (Elt F) ℕ (UU nD τ) ℕ

/-- No core owes another anything: no level is assigned. -/
abbrev lvls : GSem nD τ sig → Finset Unit := fun _ => ∅
abbrev lv : GSem nD τ sig → Unit → ℕ := fun _ _ => 0

/-! ## The proof data of the four calls together -/

def pdats (W : Vals (F := F)) : (p : Fin 4) → (c : Dev nD) → Dat τ (Elt F) Unit ℕ (UU nD τ) ℕ (cfgs p) c := fun
  | ⟨0, _⟩ => dat0 W
  | ⟨1, _⟩ => dat1 W
  | ⟨2, _⟩ => dat2 W
  | ⟨3, _⟩ => dat3 W

/-- The windows whose contents are related and not named. -/
def marked : (p : Fin 4) → Fin (cfgs p).W → Bool := fun
  | ⟨0, _⟩ => fun _ => false
  | ⟨1, _⟩ => marked1
  | ⟨2, _⟩ => fun _ => false
  | ⟨3, _⟩ => fun _ => false

def rel (W : Vals (F := F)) (c : Dev nD) : (p : Fin 4) → (w : Fin (cfgs p).W) → Fin (cfgs p).N →
    (((cfgs p).win w).block.Idx → Elt F ((cfgs p).win w).elt) → Prop := fun
  | ⟨0, _⟩ => fun _ _ _ => True
  | ⟨1, _⟩ => rel1 W c
  | ⟨2, _⟩ => fun _ _ _ => True
  | ⟨3, _⟩ => fun _ _ _ => True

def rdats (W : Vals (F := F)) : (p : Fin 4) → (c : Dev nD) → RDat τ (Elt F) Unit ℕ (UU nD τ) ℕ (cfgs p) c := fun p c =>
  (pdats W p c).toRRel (marked p) (rel W c p)

/-- Each body does what its data say. -/
theorem obligation (W : Vals (F := F)) : ∀ (p : Fin 4) (c : Dev nD),
    (rdats W p c).BodyObligation (defs₀ (F := F)) Variants.none () Set.univ
  | ⟨0, _⟩, c => (obligation0 W c).loose.toR
  | ⟨1, _⟩, c => (obligation1 W c).toRRel
  | ⟨2, _⟩, c => (obligation2 W c).loose.toR
  | ⟨3, _⟩, c => (obligation3 W c).loose.toR

theorem owed_zero (W : Vals (F := F)) : ∀ (p : Fin 4) (c : Dev nD) t, (pdats W p c).owed t = 0
  | ⟨0, _⟩, _, _ => rfl
  | ⟨1, _⟩, _, _ => rfl
  | ⟨2, _⟩, _, _ => rfl
  | ⟨3, _⟩, _, _ => rfl

theorem recorded_univ (W : Vals (F := F)) : ∀ (p : Fin 4) (c : Dev nD), (pdats W p c).recorded 0 = Set.univ
  | ⟨0, _⟩, _ => rfl
  | ⟨1, _⟩, _ => rfl
  | ⟨2, _⟩, _ => rfl
  | ⟨3, _⟩, _ => rfl

theorem share_full (W : Vals (F := F)) : ∀ (p : Fin 4) (c : Dev nD) w, (pdats W p c).share w = fullShare
  | ⟨0, _⟩, c, w => (dat0 W c).share_full (fun _ => rfl) w
  | ⟨1, _⟩, c, w => (dat1 W c).share_full (fun _ => rfl) w
  | ⟨2, _⟩, c, w => (dat2 W c).share_full (fun _ => rfl) w
  | ⟨3, _⟩, c, w => (dat3 W c).share_full (fun _ => rfl) w

theorem entry_eq (W : Vals (F := F)) : ∀ (p : Fin 4) (c : Dev nD) (w : Fin (cfgs p).W),
    (pdats W p c).arrAt w 0 = W c (Proc.devRef .tc (Pipeline.arrRef (cfgs p).spec w))
  | ⟨0, _⟩, _, _ => rfl
  | ⟨1, _⟩, _, _ => rfl
  | ⟨2, _⟩, _, _ => rfl
  | ⟨3, _⟩, _, _ => rfl

theorem scratch_split (c : Dev nD) :
    (Pipeline.scopedRest (Ix := Unit) (Name := ℕ) (U := UU nD τ) (Lvl := ℕ) (Val := Elt F) spec2 c : sProp 𝕄)
      = iprop(((∃ f : Buf (Elt F) ((c.tc : Thread nD τ).loc cc2_scratch0), ((c.tc : Thread nD τ).loc cc2_scratch0) ↦{fullShare} f)
          ∗ (∃ f : Buf (Elt F) ((c.tc : Thread nD τ).loc cc2_scratch1), ((c.tc : Thread nD τ).loc cc2_scratch1) ↦{fullShare} f))
        ∗ Pipeline.scopedRestBut (Ix := Unit) (Name := ℕ) (U := UU nD τ) (Lvl := ℕ) (Val := Elt F) spec2 c [cc2_scratch0, cc2_scratch1]) :=
  Pipeline.scopedRest_split_of_list spec2 c [cc2_scratch0, cc2_scratch1] (by decide) (by decide)

theorem enter2 (W : Vals (F := F)) (c : Dev nD) :
    (Pipeline.scopedRest (Ix := Unit) (Name := ℕ) (U := UU nD τ) (Lvl := ℕ) (Val := Elt F) spec2 c : sProp 𝕄) ⊢ inv2 W c 0 := by
    rw [scratch_split]
    unfold inv2
    iintro ⟨⟨⟨%f, Hf⟩, ⟨%g, Hg⟩⟩, HR⟩
    isplitr [HR]
    · iexists ((Memref.whole cc2_scratch0).view.read (Elt F) f), ((Memref.whole cc2_scratch1).view.read (Elt F) g)
      isplitr
      · ipureintro; exact fun h => absurd rfl h
      isplitl [Hf]
      · unfold owns
        iexists f
        isplitr; · ipureintro; rfl
        rw [View.set_whole]; iexact Hf
      · unfold owns
        iexists g
        isplitr; · ipureintro; rfl
        rw [View.set_whole]; iexact Hg
    iexact HR

theorem leave2' (W : Vals (F := F)) (c : Dev nD) (n : ℕ) :
    inv2 W c n ⊢ (Pipeline.scopedRest (Ix := Unit) (Name := ℕ) (U := UU nD τ) (Lvl := ℕ) (Val := Elt F) spec2 c : sProp 𝕄) := by
    rw [scratch_split]
    unfold inv2 owns
    iintro ⟨⟨%A, %B, -, ⟨%f, %_, Hf⟩, ⟨%g, %_, Hg⟩⟩, HR⟩
    isplitr [HR]
    · isplitl [Hf]
      · iexists f; rw [View.set_whole]; iexact Hf
      · iexists g; rw [View.set_whole]; iexact Hg
    iexact HR

theorem enter (W : Vals (F := F)) (p : Fin 4) (c : Dev nD) :
    (Pipeline.scopedRest (Ix := Unit) (Name := ℕ) (U := UU nD τ) (Lvl := ℕ) (Val := Elt F) (cfgs p).spec c : sProp 𝕄) ⊢ (pdats W p c).Φ 0 := by
  match p with
  | ⟨0, _⟩ => exact Entails.rfl (P := rest0 c)
  | ⟨1, _⟩ => exact Entails.rfl (P := rest1 c)
  | ⟨2, _⟩ => exact enter2 W c
  | ⟨3, _⟩ => exact Entails.rfl (P := rest3 c)

theorem leave (W : Vals (F := F)) (p : Fin 4) (c : Dev nD) :
    (pdats W p c).Φ (Fin.last (cfgs p).N) ⊢ (Pipeline.scopedRest (Ix := Unit) (Name := ℕ) (U := UU nD τ) (Lvl := ℕ) (Val := Elt F) (cfgs p).spec c : sProp 𝕄) := by
  match p with
  | ⟨0, _⟩ => exact Entails.rfl (P := rest0 c)
  | ⟨1, _⟩ => exact Entails.rfl (P := rest1 c)
  | ⟨2, _⟩ => exact leave2' W c cfg2.N
  | ⟨3, _⟩ => exact Entails.rfl (P := rest3 c)

theorem kit : ∀ p : Fin 4, PLaunchFacts (nD := nD) (τ := τ) (pcfgs (F := F)) p
  | ⟨0, _⟩ => launch0.toP
  | ⟨1, _⟩ => launch1.toP
  | ⟨2, _⟩ => launch2.toP
  | ⟨3, _⟩ => launch3.toP

end Cert.KernelIdeal.Body

end
-- ==== Proof.Calls.lean ====
/- Each call of the program as one step on the contents of the unscoped buffers, and a run as the chain of the steps. -/
module

public import proofs.«01_k».proof.Proof.Steps
public import Idealize.ShloMosaic.Lib.Pipeline.RegionArraysF
public import Idealize.ShloMosaic.Lib.Pipeline.Regions

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg Seg PLaunchFacts)

variable {F : FTy → Type} [FloatOps F] [Named F]

local notation "𝕄" => MT nD τ sig Unit (Elt F) ℕ (UU nD τ) ℕ

/-! ## One call as a step -/

/-- The contents after call `p`, from the contents `V`: its arrays hold contents its proof data allow, the other buffers are unchanged. -/
def Step (p : Fin 4) (c : Dev nD) (V V' : Valuation τ sig (Elt F)) : Prop :=
  (∀ w, (rdats (fun _ => V) p c).ArrAt w (cfgs p).N (V' (Proc.devRef .tc (Pipeline.arrRef (cfgs p).spec w))))
    ∧ ∀ r, r ∉ Pipeline.arrRefs (τ := τ) (cfgs p).spec → V' r = V r

/-- Contents for the arrays of a call, put into the contents of all buffers. -/
theorem exists_vals (p : Fin 4) (c : Dev nD) (V : Valuation τ sig (Elt F))
    (G : (w : Fin (cfgs p).W) → Buf (Elt F) (((cfgs p).win w).arr.view.loc (c.tc : Thread nD τ))) :
    ∃ V' : Valuation τ sig (Elt F), (∀ w, G w = V' (Proc.devRef .tc (Pipeline.arrRef (cfgs p).spec w)))
      ∧ ∀ r, r ∉ Pipeline.arrRefs (τ := τ) (cfgs p).spec → V' r = V r := by
  classical
  have inj := (kit (F := F) p).win.arr_inj
  have one : ∀ b : DevRef τ sig, ∃ x : b.ty.Contents (Elt F), (∀ w, Proc.devRef .tc (Pipeline.arrRef (cfgs p).spec w) = b → HEq (G w) x)
      ∧ (b ∉ Pipeline.arrRefs (τ := τ) (cfgs p).spec → x = V b) := fun b => by
    by_cases h : ∃ w, Proc.devRef (τ := τ) .tc (Pipeline.arrRef (cfgs p).spec w) = b
    · obtain ⟨w, rfl⟩ := h
      refine ⟨G w, fun w' h' => ?_, fun hn => absurd ?_ hn⟩
      · have e : w' = w := inj (Proc.devRef_injective _ h')
        subst e; exact HEq.rfl
      · exact Finset.mem_map_of_mem _ (Finset.mem_image_of_mem _ (Finset.mem_univ w))
    · exact ⟨V b, fun w hw => absurd ⟨w, hw⟩ h, fun _ => rfl⟩
  choose V' h1 h2 using one
  exact ⟨V', fun w => eq_of_heq (h1 _ w rfl), h2⟩

/-- The segment of call `p`, entered with the unscoped buffers at `V`. `E` passes by. -/
def region (p : Fin 4) (V : Valuation τ sig (Elt F)) (E : Dev nD → sProp 𝕄) :
    RDat.RegionSeg (pcfgs (F := F)) adm (rdats (fun _ => V)) () (defs₀ (F := F)) Variants.none lvls lv p where
  win := (kit (F := F) p).to₀.win
  block_pos := (kit (F := F) p).to₀.block_pos
  stage_whole := (kit (F := F) p).to₀.stage_whole
  K := PEmpty
  osem k := k.elim
  ho := Pipeline.OwnSemFacts.none _
  hbody c := obligation (fun _ => V) p c
  hwaits c := Pipeline.RDat.hwaits_of_owed_zero _ _ _ _ lvls lv p (owed_zero (fun _ => V) p) c
  pre c := iprop(StableHlo.held (c.tc : Thread nD τ) (Pipeline.ucRefs τ sig) V ∗ (∃ Wd, owes (c : Thread nD τ) (0 : CellTallies nD τ sig Unit) Wd) ∗ E c)
  post c := iprop(∃ V', ⌜Step p c V V'⌝ ∗ StableHlo.held (c.tc : Thread nD τ) (Pipeline.ucRefs τ sig) V'
    ∗ (∃ Wd, owes (c : Thread nD τ) (0 : CellTallies nD τ sig Unit) Wd) ∗ E c)
  X _ := iprop(emp)
  Y _ := iprop(emp)
  Z c := iprop(StableHlo.held (c.tc : Thread nD τ) (Pipeline.ucRefs τ sig \ Pipeline.arrRefs (cfgs p).spec) V ∗ E c)
  hentry c := by
    show _ ⊢ |={Set.univ}=> iprop((pdats (fun _ => V) p c).arrays ((pdats (fun _ => V) p c).arrAt · 0)
        ∗ Pipeline.prefHeld (pcfgs (F := F) p).pre c (fun _ => fullShare) (adm p).1 ∗ (pdats (fun _ => V) p c).owesAt () 0 ∗ _ ∗ _)
    rw [Pipeline.ownSems0_none, Pipeline.prefHeld_of_none _ rfl,
      Pipeline.arrays_held (pcfgs (F := F)) adm (pdats (fun _ => V)) p (kit (F := F) p) c (share_full (fun _ => V) p c) _ V (entry_eq (fun _ => V) p c),
      StableHlo.held_sub_split (c.tc : Thread nD τ) (Pipeline.arrRefs_sub_ucRefs (pcfgs (F := F) p).spec (kit (F := F) p).win.arr_unscoped) V]
    iintro ⟨⟨⟨Ha, Hr⟩, HO, HE⟩, -, -⟩
    imodintro
    isplitl [Ha]; · iexact Ha
    isplitr; · iempintro
    isplitl [HO]
    · unfold Dat.owesAt Pipeline.owesWithin Dat.bound
      rw [owed_zero, recorded_univ]
      icases HO with ⟨%Wd, HO⟩; iexists Wd
      isplitr; · ipureintro; exact fun _ _ => Or.inl trivial
      iexact HO
    isplitr; · iempintro
    isplitl [Hr]; · iexact Hr
    iexact HE
  hin c := by
    show _ ⊢ (pdats (fun _ => V) p c).Φ 0
    iintro ⟨-, -, H⟩
    iapply (enter (fun _ => V) p c)
    iexact H
  hout c := by
    rw [Pipeline.ownSems0_none]
    show (pdats (fun _ => V) p c).Φ (Fin.last (cfgs p).N) ⊢ _
    iintro H
    isplitr; · iempintro
    isplitr; · iempintro
    iapply (leave (fun _ => V) p c)
    iexact H
  hexit c := by
    show iprop((rdats (fun _ => V) p c).arraysAt (cfgs p).N ∗ (pdats (fun _ => V) p c).owesAt () (Fin.last (cfgs p).N) ∗ _ ∗ _) ⊢ _
    unfold RDat.arraysAt
    iintro ⟨Ha, HO, -, Hr, HE⟩
    ihave H := (BI.bigSep_exists_pi Finset.univ _) $$ Ha
    icases H with ⟨%A, H⟩
    ihave H' := (BI.bigSep_pure_sep Finset.univ (fun w => (rdats (fun _ => V) p c).ArrAt w (cfgs p).N (A w)) _) $$ H
    icases H' with ⟨%hA, H⟩
    obtain ⟨V', hV', hrest⟩ := exists_vals p c V A
    imodintro
    iexists V'
    isplitr
    · ipureintro
      exact ⟨fun w => hV' w ▸ hA w (Finset.mem_univ w), hrest⟩
    rw [StableHlo.held_sub_split (c.tc : Thread nD τ) (Pipeline.arrRefs_sub_ucRefs (pcfgs (F := F) p).spec (kit (F := F) p).win.arr_unscoped) V',
      StableHlo.held_congr (c.tc : Thread nD τ) (S := Pipeline.ucRefs τ sig \ Pipeline.arrRefs (cfgs p).spec) fun b hb => hrest b (Finset.mem_sdiff.mp hb).2,
      ← Pipeline.arrays_held (pcfgs (F := F)) adm (pdats (fun _ => V)) p (kit (F := F) p) c (share_full (fun _ => V) p c) A V' hV']
    unfold Dat.arrays
    isplitl [H Hr]
    · isplitl [H]; · iexact H
      iexact Hr
    isplitl [HO]
    · unfold Dat.owesAt Pipeline.owesWithin
      rw [owed_zero]
      icases HO with ⟨%Wd, -, HO⟩; iexists Wd; iexact HO
    iexact HE

/-! ## The items of the program in order -/

/-- The transfers' accounts of call `p`, used up when it is entered. -/
def ghost (p : Fin 4) (c : Dev nD) : sProp 𝕄 :=
  iprop(Pipeline.cellsGhost (Pipeline.pin (pcfgs (F := F)) adm) embR p c ∗ Pipeline.toksInit (Pipeline.pin (pcfgs (F := F)) adm) embR p c)

/-- Between two items: the unscoped buffers hold contents with `P`, and nothing is owed. -/
def St (P : Dev nD → Valuation τ sig (Elt F) → Prop) (E : Dev nD → sProp 𝕄) (c : Dev nD) : sProp 𝕄 :=
  iprop(∃ V, ⌜P c V⌝ ∗ StableHlo.held (c.tc : Thread nD τ) (Pipeline.ucRefs τ sig) V
    ∗ (∃ Wd, owes (c : Thread nD τ) (0 : CellTallies nD τ sig Unit) Wd) ∗ E c)

set_option backward.isDefEq.respectTransparency.types false in
/-- The item of call `p`. -/
def callSeg (p : Fin 4) (P : Dev nD → Valuation τ sig (Elt F) → Prop) (E : Dev nD → sProp 𝕄) :
    HostSeg (Name := ℕ) (U := UU nD τ) (pcfgs (F := F)) defs₀ Variants.none lvls lv where
  prog := Prog.lift (.customCall (Pipeline.entry p) ())
  pre := St P fun c => iprop(ghost p c ∗ E c)
  post := St (fun c V' => ∃ V, P c V ∧ Step p c V V') E
  run c {β} k K := by
    unfold St ghost
    iintro ⟨Hk, Hbd, ⟨%V, %hP, Hh, HO, ⟨Hg, Ht⟩, HE⟩, HL⟩
    have h := RDat.RegionSeg.wp (pcfgs (F := F)) adm (rdats (fun _ => V)) () cellOf_inj embR (defs₀ (F := F)) Variants.none lvls lv
      (region p V E) c none (fun _ hu => nomatch hu) k K
    dsimp only [region] at h
    iapply h
    isplitl [Hk]
    · iintro ⟨Hbd, %V', %hS, Hh, HO, HE⟩
      iapply Hk
      isplitl [Hbd]; · iexact Hbd
      iexists V'
      isplitr; · ipureintro; exact ⟨V, hP, hS⟩
      isplitl [Hh]; · iexact Hh
      isplitl [HO]; · iexact HO
      iexact HE
    isplitl [Hbd]; · iexact Hbd
    isplitl [Hh HO HE]
    · isplitl [Hh]; · iexact Hh
      isplitl [HO]; · iexact HO
      iexact HE
    isplitl [HL]; · iexact HL
    isplitl [Hg]; · iexact Hg
    iexact Ht

set_option backward.isDefEq.respectTransparency.types false in
/-- The item of a stretch of host operations. -/
def opsSeg (ops : List (HloOp τ sig (Elt F))) (hS : ∀ op ∈ ops, op.bufs ⊆ Pipeline.ucRefs τ sig) (hf : ∀ op ∈ ops, op.fresh = ∅)
    (P : Dev nD → Valuation τ sig (Elt F) → Prop) (E : Dev nD → sProp 𝕄) :
    HostSeg (Name := ℕ) (U := UU nD τ) (pcfgs (F := F)) defs₀ Variants.none lvls lv where
  prog := StableHlo.seq ops
  pre := St P E
  post := St (fun c V' => ∃ V, P c V ∧ V' = StableHlo.after ops V) E
  run c {β} k K := by
    unfold St
    iintro ⟨Hk, Hbd, ⟨%V, %hP, Hh, HO, HE⟩, -⟩
    have hseq := StableHlo.wp_seq (defs := Pipeline.defs (pcfgs (F := F)) defs₀) (Variants.lift Variants.none) none Set.univ c (Pipeline.ucRefs τ sig) k (K := K) ops hS hf V
    iapply hseq $$ [Hbd Hh]
    · isplitl [Hbd] <;> iassumption
    iintro ⟨Hbd, Hh⟩
    iapply Hk
    isplitl [Hbd]; · iexact Hbd
    iexists _
    isplitr; · ipureintro; exact ⟨V, hP, rfl⟩
    isplitl [Hh]; · iexact Hh
    isplitl [HO]; · iexact HO
    iexact HE

variable (m : (ℓ : Loc nD τ sig) → Buf (Elt F) ℓ) (ρ : Dev nD → PrngReg)

/-- The contents the program can have after each of its seven items. -/
def At0 (c : Dev nD) (V : Valuation τ sig (Elt F)) : Prop := V = V0 m c
def At1 (c : Dev nD) (V' : Valuation τ sig (Elt F)) : Prop := ∃ V, At0 m c V ∧ V' = StableHlo.after hostOps0 V
def At2 (c : Dev nD) (V' : Valuation τ sig (Elt F)) : Prop := ∃ V, At1 m c V ∧ Step 0 c V V'
def At3 (c : Dev nD) (V' : Valuation τ sig (Elt F)) : Prop := ∃ V, At2 m c V ∧ Step 1 c V V'
def At4 (c : Dev nD) (V' : Valuation τ sig (Elt F)) : Prop := ∃ V, At3 m c V ∧ Step 2 c V V'
def At5 (c : Dev nD) (V' : Valuation τ sig (Elt F)) : Prop := ∃ V, At4 m c V ∧ V' = StableHlo.after hostOps3 V
def At6 (c : Dev nD) (V' : Valuation τ sig (Elt F)) : Prop := ∃ V, At5 m c V ∧ Step 3 c V V'
def At7 (c : Dev nD) (V' : Valuation τ sig (Elt F)) : Prop := ∃ V, At6 m c V ∧ V' = StableHlo.after hostOps4 V

/-- The accounts of the calls still to come. -/
def left3 (c : Dev nD) : sProp 𝕄 := iprop(ghost 3 c ∗ emp)
def left2 (c : Dev nD) : sProp 𝕄 := iprop(ghost 2 c ∗ left3 c)
def left1 (c : Dev nD) : sProp 𝕄 := iprop(ghost 1 c ∗ left2 c)
def left0 (c : Dev nD) : sProp 𝕄 := iprop(ghost 0 c ∗ left1 c)

/-- The items of the program. -/
def items : List (Seg (pcfgs (F := F)) adm (pdats (V0 m)) () defs₀ Variants.none lvls lv) :=
  [.host (opsSeg hostOps0 (fun op h => Pipeline.sub_ucRefs op ((List.forall_iff_forall_mem.mp hostOps0_sub) op h))
      (fun op h => (List.forall_iff_forall_mem.mp hostOps0_fresh) op h) (At0 m) left0),
   .host (callSeg 0 (At1 m) left1), .host (callSeg 1 (At2 m) left2), .host (callSeg 2 (At3 m) left3),
   .host (opsSeg hostOps3 (fun op h => Pipeline.sub_ucRefs op ((List.forall_iff_forall_mem.mp hostOps3_sub) op h))
      (fun op h => (List.forall_iff_forall_mem.mp hostOps3_fresh) op h) (At4 m) left3),
   .host (callSeg 3 (At5 m) fun _ => iprop(emp)),
   .host (opsSeg hostOps4 (fun op h => Pipeline.sub_ucRefs op ((List.forall_iff_forall_mem.mp hostOps4_sub) op h))
      (fun op h => (List.forall_iff_forall_mem.mp hostOps4_fresh) op h) (At6 m) fun _ => iprop(emp))]

/-- The launch's accounts dealt to the cores. -/
theorem deal : (BI.own (embR (initOf (Pipeline.cells (Pipeline.pin (pcfgs (F := F)) adm) cellOf_inj)
      (Pipeline.launchToks (Pipeline.pin (pcfgs (F := F)) adm) cellOf_inj))) : sProp 𝕄)
    ⊢ |==> bigSep Finset.univ (left0 (F := F)) := by
  iintro H
  imod (Pipeline.fund_ghost (Pipeline.pin (pcfgs (F := F)) adm) embR cellOf_inj) $$ H with ⟨Hc, Ht⟩
  imodintro
  have e : (bigSep Finset.univ (left0 (F := F)) : sProp 𝕄)
      = iprop((bigSep Finset.univ fun c : Dev nD => bigSep Finset.univ fun p => Pipeline.cellsGhost (Pipeline.pin (pcfgs (F := F)) adm) embR p c)
        ∗ bigSep Finset.univ fun c : Dev nD => bigSep Finset.univ fun p => Pipeline.toksInit (Pipeline.pin (pcfgs (F := F)) adm) embR p c) := by
    rw [← bigSep_sep']
    refine bigSep_congr fun c _ => ?_
    rw [← bigSep_sep', show (Finset.univ : Finset (Fin 4)) = {0, 1, 2, 3} from by decide, bigSep_insert (by decide), bigSep_insert (by decide),
      bigSep_insert (by decide), show ({3} : Finset (Fin 4)) = insert 3 ∅ from rfl, bigSep_insert (by decide), bigSep_empty]
    rfl
  rw [e]
  isplitl [Hc]; · iexact Hc
  iexact Ht

set_option backward.isDefEq.respectTransparency.types false in
/-- The program ends; its final memory holds in the unscoped buffers contents the items allow, and every semaphore counter is zero. -/
theorem run : θ_run defs (onTc (τ := τ) (main (F := F))) ⟨m, fun _ => 0, ρ⟩ (fun r =>
    (∀ c : Dev nD, ∃ V, At7 m c V ∧ ∀ b ∈ Pipeline.ucRefs τ sig, r.2.mem (c, b) = V b) ∧ r.2.sem = fun _ => 0) := by
  refine Pipeline.θ_run_regions_kit_sems (pcfgs (F := F)) adm (pdats (V0 m)) () cellOf_inj embL defs₀ Variants.none lvls lv m ρ main (items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (by simp only [items, Seg.pipes_host, Seg.pipes_nil]; decide) (O₀ := 0) (hL := fun _ _ => rfl) (G := left0)
    (u₀ := (initOf (Pipeline.cells (Pipeline.pin (pcfgs (F := F)) adm) cellOf_inj) (Pipeline.launchToks (Pipeline.pin (pcfgs (F := F)) adm) cellOf_inj),
      initOf (Pipeline.cells (Pipeline.pin (pcfgs (F := F)) adm) cellOf_inj) (Pipeline.launchToks (Pipeline.pin (pcfgs (F := F)) adm) cellOf_inj)))
    (hu₀ := ?_)
    (T₀ := St (At0 m) left0)
    (Tₙ := fun c => iprop(∃ V, ⌜At7 m c V⌝ ∗ StableHlo.held (c.tc : Thread nD τ) (Pipeline.ucRefs τ sig) V))
    (hch := ⟨fun _ => .rfl, fun _ => .rfl, fun _ => .rfl, fun _ => .rfl, fun _ => .rfl, fun _ => .rfl, fun _ => .rfl, fun c => ?_⟩)
    (hinit := ?_) (QY := fun c s => ∃ V, At7 m c V ∧ ∀ b ∈ Pipeline.ucRefs τ sig, s.mem (c, b) = V b)
    (hfin := fun c s' => ?_) (hQ := fun _ h hz => ⟨h, funext fun g => hz g (.inr (regions_no_unscoped g.2))⟩)
  · iintro Hu
    ihave H := (ownU_pair _ _) $$ Hu
    icases H with ⟨HP, HQ⟩
    imod deal $$ HQ with HG
    imodintro
    isplitl [HP]; · iexact HP
    iexact HG
  · show St (At7 m) (fun _ => iprop(emp)) c ⊢ _
    unfold St
    iintro ⟨%V, %hV, Hh, HO, -⟩
    isplitl [Hh]
    · iexists V
      isplitr; · ipureintro; exact hV
      iexact Hh
    iexact HO
  · refine Pipeline.initEach lvls lv fun c => ?_
    rw [show unscopedBufs c (fun b => m ((c : Thread nD τ).loc b)) = StableHlo.held (c : Thread nD τ) (Pipeline.ucRefs τ sig) (V0 m c) from
      Pipeline.unscopedBufs_held c (V0 m c)]
    unfold St
    iintro ⟨⟨Hh, -, HO, -, -, HG⟩, -⟩
    imodintro
    iexists V0 m c
    isplitr; · ipureintro; exact rfl
    isplitl [Hh]; · iexact Hh
    isplitl [HO]; · iexists ∅; iexact HO
    iexact HG
  · unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro; exact ⟨V, hV, h⟩
    iexact HSI

end Cert.KernelIdeal.Body

end
-- ==== Proof.Kept.lean ====
/- The buffers that each item of the program leaves as they are; from them, that the arguments end as launched. -/
module

public import proofs.«01_k».proof.Proof.Calls
public import Idealize.ShloMosaic.Lib.Pipeline.RegionArraysF
public import Idealize.ShloMosaic.Lib.Pipeline.Regions

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg Seg PLaunchFacts)

variable {F : FTy → Type} [FloatOps F] [Named F]

local notation "𝕄" => MT nD τ sig Unit (Elt F) ℕ (UU nD τ) ℕ

/-- A call leaves every buffer that is not the array of one of its output windows. -/
theorem Step.kept {p : Fin 4} {c : Dev nD} {V V' : Valuation τ sig (Elt F)} (h : Step p c V V') (r : Ref sig .tc)
    (hr : ∀ w, ((cfgs p).win w).isOut = true → Pipeline.arrRef (cfgs p).spec w ≠ r) : V' (Proc.devRef .tc r) = V (Proc.devRef .tc r) := by
  by_cases hw : ∃ w, Pipeline.arrRef (cfgs p).spec w = r
  · obtain ⟨w, rfl⟩ := hw
    have ho : ((cfgs p).win w).isOut = false := by
      cases e : ((cfgs p).win w).isOut
      · rfl
      · exact absurd rfl (hr w e)
    have h1 := h.1 w
    rw [RDat.ArrAt_in _ w ho] at h1
    exact h1.trans (entry_eq (fun _ => V) p c w)
  · refine h.2 _ fun hm => hw ?_
    obtain ⟨r', hr', e⟩ := Finset.mem_map.mp hm
    obtain ⟨w, -, rfl⟩ := Finset.mem_image.mp hr'
    exact ⟨w, Proc.devRef_injective _ e⟩

theorem kept0 {c : Dev nD} {V V' : Valuation τ sig (Elt F)} (h : Step 0 c V V') (r : Ref sig .tc) (hr : r ≠ main_v3) :
    V' (Proc.devRef .tc r) = V (Proc.devRef .tc r) :=
  h.kept r fun w hw e => hr (e.symm.trans ((show ∀ w : Fin cfg0.W, (cfg0.win w).isOut = true → Pipeline.arrRef spec0 w = main_v3 from by decide) w hw))

theorem kept1 {c : Dev nD} {V V' : Valuation τ sig (Elt F)} (h : Step 1 c V V') (r : Ref sig .tc) (hr : r ≠ main_v4) :
    V' (Proc.devRef .tc r) = V (Proc.devRef .tc r) :=
  h.kept r fun w hw e => hr (e.symm.trans ((show ∀ w : Fin cfg1.W, (cfg1.win w).isOut = true → Pipeline.arrRef spec1 w = main_v4 from by decide) w hw))

theorem kept2 {c : Dev nD} {V V' : Valuation τ sig (Elt F)} (h : Step 2 c V V') (r : Ref sig .tc) (hr : r ≠ main_v5_0) (hr' : r ≠ main_v5_1) :
    V' (Proc.devRef .tc r) = V (Proc.devRef .tc r) :=
  h.kept r fun w hw e => by
    rcases (show ∀ w : Fin cfg2.W, (cfg2.win w).isOut = true → Pipeline.arrRef spec2 w = main_v5_0 ∨ Pipeline.arrRef spec2 w = main_v5_1 from by decide) w hw with h | h
    · exact hr (e.symm.trans h)
    · exact hr' (e.symm.trans h)

theorem kept3 {c : Dev nD} {V V' : Valuation τ sig (Elt F)} (h : Step 3 c V V') (r : Ref sig .tc) (hr : r ≠ main_v6) :
    V' (Proc.devRef .tc r) = V (Proc.devRef .tc r) :=
  h.kept r fun w hw e => hr (e.symm.trans ((show ∀ w : Fin cfg3.W, (cfg3.win w).isOut = true → Pipeline.arrRef spec3 w = main_v6 from by decide) w hw))

theorem keptOps0 (V : Valuation τ sig (Elt F)) (r : Ref sig .tc) (h : r ∉ hostOps0_W) :
    StableHlo.after hostOps0 V (Proc.devRef .tc r) = V (Proc.devRef .tc r) := StableHlo.after_of_writes_sub hostOps0 _ hostOps0_writes h
theorem keptOps3 (V : Valuation τ sig (Elt F)) (r : Ref sig .tc) (h : r ∉ hostOps3_W) :
    StableHlo.after hostOps3 V (Proc.devRef .tc r) = V (Proc.devRef .tc r) := StableHlo.after_of_writes_sub hostOps3 _ hostOps3_writes h
theorem keptOps4 (V : Valuation τ sig (Elt F)) (r : Ref sig .tc) (h : r ∉ hostOps4_W) :
    StableHlo.after hostOps4 V (Proc.devRef .tc r) = V (Proc.devRef .tc r) := StableHlo.after_of_writes_sub hostOps4 _ hostOps4_writes h

/-- The buffers the program writes. -/
abbrev written : List (Ref sig .tc) := [main_v0, main_v1, main_v2, main_v3, main_v4, main_v5_0, main_v5_1, main_v6, main_v7]

variable (m : (ℓ : Loc nD τ sig) → Buf (Elt F) ℓ) (ρ : Dev nD → PrngReg)

/-- Every other buffer ends as launched. -/
theorem unwritten {c : Dev nD} {V : Valuation τ sig (Elt F)} (h : At7 m c V) (r : Ref sig .tc) (hr : r ∉ written) :
    V (Proc.devRef .tc r) = m ((c : Thread nD τ).loc r) := by
  obtain ⟨V6, ⟨V5, ⟨V4, ⟨V3, ⟨V2, ⟨V1, ⟨V0', rfl, rfl⟩, s0⟩, s1⟩, s2⟩, rfl⟩, s3⟩, rfl⟩ := h
  simp only [written, List.mem_cons, List.not_mem_nil, or_false, not_or] at hr
  obtain ⟨h0, h1, h2, h3, h4, h50, h51, h6, h7⟩ := hr
  rw [keptOps4 _ r (by simp [h7]), kept3 s3 r h6, keptOps3 _ r (by simp [h6]), kept2 s2 r h50 h51, kept1 s1 r h4, kept0 s0 r h3,
    keptOps0 _ r (by simp [h0, h1, h2])]

theorem mem_unscoped (r : Ref sig .tc) (hr : r.isScoped = false) : Proc.devRef .tc r ∈ Pipeline.ucRefs τ sig :=
  Finset.mem_filter.mpr ⟨StableHlo.devRef_mem_tcRefs r, fun h => Bool.false_ne_true (hr.symm.trans h)⟩

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r hr => ⟨fun c => by
    obtain ⟨V, hV, h⟩ := hr.1 c
    have one : ∀ r' : Ref sig .tc, r' ∉ written → r'.isScoped = false → r.2.mem ((c.tc : Thread nD τ).loc r') = m ((c.tc : Thread nD τ).loc r') :=
      fun r' hw hs => (h _ (mem_unscoped r' hs)).trans (unwritten m hV r' hw)
    exact ⟨one _ (by decide) (by decide), one _ (by decide) (by decide), one _ (by decide) (by decide), one _ (by decide) (by decide),
      one _ (by decide) (by decide), one _ (by decide) (by decide)⟩, hr.2⟩) (run m ρ)

end Cert.KernelIdeal.Body

end
-- ==== Proof.Values.lean ====
/- What each item of the program leaves in the array that it writes. -/
module

public import proofs.«01_k».proof.Proof.Kept
public import Idealize.ShloMosaic.Lib.Pipeline.ArrRel
public import Idealize.ShloMosaic.Lib.Pipeline.Value
public import Idealize.ShloMosaic.Lib.Pipeline.ValueKit.Geometry
public import Idealize.ShloMosaic.Lib.ValueLayout

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx
open Idealize.ShloMosaic.Pipeline (Dat RDat)

variable {F : FTy → Type} [FloatOps F] [Named F]

abbrev xA (V : Valuation τ sig (Elt F)) : Vec F S1024x16 .f32 := V (Proc.devRef .tc main_arg0)
abbrev w1A (V : Valuation τ sig (Elt F)) : Vec F S16x32 .f32 := V (Proc.devRef .tc main_arg1)
abbrev memA (V : Valuation τ sig (Elt F)) : Vec F S100000x32 .f32 := V (Proc.devRef .tc main_arg3)
abbrev b1A (V : Valuation τ sig (Elt F)) : Vec F S1x32 .f32 := V (Proc.devRef .tc main_v0)
abbrev meanA (V : Valuation τ sig (Elt F)) : Vec F S1x16 .f32 := V (Proc.devRef .tc main_v1)
abbrev stdA (V : Valuation τ sig (Elt F)) : Vec F S1x16 .f32 := V (Proc.devRef .tc main_v2)
abbrev encA (V : Valuation τ sig (Elt F)) : Vec F S1024x32 .f32 := V (Proc.devRef .tc main_v3)
abbrev mtA (V : Valuation τ sig (Elt F)) : Vec F S32x100352 .f32 := V (Proc.devRef .tc main_v4)
abbrev lossA (V : Valuation τ sig (Elt F)) : Vec F S1024x1 .f32 := V (Proc.devRef .tc main_v5_0)
abbrev copyA (V : Valuation τ sig (Elt F)) : Vec F S100000x32 .f32 := V (Proc.devRef .tc main_v5_1)
abbrev outA (V : Valuation τ sig (Elt F)) : Vec F S100000x32 .f32 := V (Proc.devRef .tc main_v6)
abbrev resA (V : Valuation τ sig (Elt F)) : Vec F S1024 .f32 := V (Proc.devRef .tc main_v7)

variable (c : Dev nD)

/-! ## Blocks that are a whole array -/

theorem idx0 : ∀ (t : Fin cfg0.N) (w : Fin cfg0.W) (a : Fin (cfg0.win w).shape.rank), (cfg0.win w).index t a = 0 := by decide +kernel

theorem blk0_whole (W : Vals (F := F)) (w : Fin cfg0.W) (t : Fin cfg0.N) (y : ((cfg0.win w).xblock (cfg0.grid.coords t)).Idx)
    (a : Fin (cfg0.win w).shape.rank) : (((cfg0.win w).rect t).emb y a : Nat) = y a :=
  Pipeline.Window.rect_emb_val_of_index_zero _ _ _ (idx0 t w a) y

theorem blk0_0 (W : Vals (F := F)) (t : Fin cfg0.N) : (blk0 W c 0 t : Vec F S1024x16 .f32) = xA (W c) := by
  funext y
  show W c (Proc.devRef .tc main_arg0) ((win0_0.rect t).emb y) = W c (Proc.devRef .tc main_arg0) y
  congr 1; funext a; exact Fin.ext (blk0_whole W 0 t y a)
theorem blk0_1 (W : Vals (F := F)) (t : Fin cfg0.N) : (blk0 W c 1 t : Vec F S16x32 .f32) = w1A (W c) := by
  funext y
  show W c (Proc.devRef .tc main_arg1) ((win0_1.rect t).emb y) = W c (Proc.devRef .tc main_arg1) y
  congr 1; funext a; exact Fin.ext (blk0_whole W 1 t y a)
theorem blk0_2 (W : Vals (F := F)) (t : Fin cfg0.N) : (blk0 W c 2 t : Vec F S1x32 .f32) = b1A (W c) := by
  funext y
  show W c (Proc.devRef .tc main_v0) ((win0_2.rect t).emb y) = W c (Proc.devRef .tc main_v0) y
  congr 1; funext a; exact Fin.ext (blk0_whole W 2 t y a)
theorem blk0_3 (W : Vals (F := F)) (t : Fin cfg0.N) : (blk0 W c 3 t : Vec F S1x16 .f32) = meanA (W c) := by
  funext y
  show W c (Proc.devRef .tc main_v1) ((win0_3.rect t).emb y) = W c (Proc.devRef .tc main_v1) y
  congr 1; funext a; exact Fin.ext (blk0_whole W 3 t y a)
theorem blk0_4 (W : Vals (F := F)) (t : Fin cfg0.N) : (blk0 W c 4 t : Vec F S1x16 .f32) = stdA (W c) := by
  funext y
  show W c (Proc.devRef .tc main_v2) ((win0_4.rect t).emb y) = W c (Proc.devRef .tc main_v2) y
  congr 1; funext a; exact Fin.ext (blk0_whole W 4 t y a)

/-! ## Call 0 -/

variable {c} {V V' : Valuation τ sig (Elt F)}

/-- The encoding that call 0 leaves. -/
theorem enc_value (h : Step 0 c V V') : encA V' = k0_pay1 (stdA V) (xA V) (meanA V) (w1A V) (b1A V) := by
  have e := (dat0 (fun _ => V) c).toR_arrAt 5 cfg0.N _ (h.1 5)
  refine e.trans ?_
  refine (dat0 (fun _ => V) c).arrAt_eq_of_after_last 5 ⟨0, by decide⟩ (by decide +kernel) _ fun j => ?_
  show encBlk (fun _ => V) c _ j = _
  unfold encBlk
  rw [blk0_0, blk0_1, blk0_2, blk0_3, blk0_4]
  rfl

/-! ## Call 1 -/

theorem idx1_0 : ∀ t : Fin cfg1.N, (cfg1.win 0).index t 0 = t.val ∧ (cfg1.win 0).index t 1 = 0 := by decide +kernel
theorem idx1_1 : ∀ t : Fin cfg1.N, (cfg1.win 1).index t 0 = 0 ∧ (cfg1.win 1).index t 1 = t.val := by decide +kernel
theorem xsize1_0 : ∀ t : Fin cfg1.N, (cfg1.win 0).xsize (cfg1.grid.coords t) 0 = min 2048 (100000 - 2048 * t.val)
    ∧ (cfg1.win 0).xsize (cfg1.grid.coords t) 1 = 32 := by decide +kernel

theorem memBlk_apply (W : Vals (F := F)) (t : Fin cfg1.N) (d : Vec F S2048x32 .f32) (b : Fin 2048) (a : Fin 32)
    (hb : 2048 * t.val + b.val < 100000) : memBlk W c t d (ix2 b a) = memA (W c) (ix2 ⟨2048 * t.val + b.val, hb⟩ a) := by
  have hm : (cfg1.win 0).moved (cfg1.grid.coords t) (ix2 b a) = true := by
    refine ((cfg1.win 0).moved_iff _ _).2 fun x => ?_
    match x with
    | ⟨0, _⟩ => exact lt_of_lt_of_eq (lt_min b.isLt (by show b.val < _; omega)) (xsize1_0 t).1.symm
    | ⟨1, _⟩ => exact lt_of_lt_of_eq a.isLt (xsize1_0 t).2.symm
  unfold memBlk Pipeline.Window.fill
  rw [dif_pos hm]
  show W c (Proc.devRef .tc main_arg3) ((win1_0.rect t).emb _) = W c (Proc.devRef .tc main_arg3) _
  congr 1; funext x; refine Fin.ext ?_
  match x with
  | ⟨0, _⟩ =>
    refine (Pipeline.Window.rect_emb_val win1_0 t _ 0).trans ?_
    show (cfg1.win 0).index t 0 * 2048 + b.val = _
    rw [(idx1_0 t).1]; show _ = 2048 * t.val + b.val; omega
  | ⟨1, _⟩ =>
    refine (Pipeline.Window.rect_emb_val win1_0 t _ 1).trans ?_
    show (cfg1.win 0).index t 1 * 32 + a.val = _
    rw [(idx1_0 t).2]; show _ = a.val; omega

theorem k1_pay1_apply (v : Vec F S2048x32 .f32) (a : Fin 32) (b : Fin 2048) : k1_pay1 v (ix2 a b) = v (ix2 b a) :=
  transpose_ix2_apply v _ a b

/-- What call 1 leaves: the memory transposed, in the columns that it has. -/
theorem mt_value (h : Step 1 c V V') (d : Fin 32) (j : Fin 100352) (hj : j.val < 100000) :
    mtA V' (ix2 d j) = memA V (ix2 ⟨j.val, hj⟩ d) := by
  obtain ⟨X, hX, hA⟩ := (h.1 1).exists_exact
  obtain ⟨after, ha, e⟩ : ∃ after, after 1 = X ∧ mtA V' = ((rdats (fun _ => V) 1 c).withAfter after).arrAt 1 cfg1.N :=
    ⟨Function.update (fun _ _ _ => Classical.arbitrary _) 1 X, Function.update_self .., hA _ fun u _ _ => by rw [Function.update_self]⟩
  have key : ∀ (i : S32x100352.Idx) (hi : (i 1).val < 100000), mtA V' i = memA V (ix2 ⟨(i 1).val, hi⟩ (i 0)) := by
    intro i
    refine (congrArg (fun G : Vec F S32x100352 .f32 => ∀ hi : (i 1).val < 100000, G i = memA V (ix2 ⟨(i 1).val, hi⟩ (i 0))) e).mpr ?_
    refine Dat.arrAt_forall_of_covers (Val := Elt F) (c := c) ((rdats (fun _ => V) 1 c).withAfter after) 1 (fun (i : S32x100352.Idx) (v : F .f32) => ∀ hi : (i 1).val < 100000, v = memA V (ix2 ⟨(i 1).val, hi⟩ (i 0)))
      (by decide +kernel) (fun t hf y => ?_) i
    rw [RDat.withAfter_after, ha]
    obtain ⟨dd, hd⟩ := Dat.toRRel_leaves (dat := dat1 (fun _ => V) c) (fgt := marked1) (w := 1) rfl (hX t t.isLt hf)
    have h0 : (((cfg1.win 1).rect t).emb y 0 : Nat) = y 0 := by
      refine (Pipeline.Window.rect_emb_val win1_1 t _ 0).trans ?_
      show (cfg1.win 1).index t 0 * 32 + _ = _
      rw [(idx1_1 t).1]; omega
    have h1 : (((cfg1.win 1).rect t).emb y 1 : Nat) = 2048 * t.val + y 1 := by
      refine (Pipeline.Window.rect_emb_val win1_1 t _ 1).trans ?_
      show (cfg1.win 1).index t 1 * 2048 + _ = _
      rw [(idx1_1 t).2]; omega
    intro hi
    have hi' : 2048 * t.val + (y 1).val < 100000 := lt_of_eq_of_lt h1.symm hi
    show X t y = _
    rw [hd]
    refine (congrArg (k1_pay1 (memBlk (fun _ => V) c t dd)) (eq_ix2 (n0 := 32) (n1 := 2048) y)).trans
      ((k1_pay1_apply _ (y 0) (y 1)).trans ((memBlk_apply (fun _ => V) t dd (y 1) (y 0) hi').trans ?_))
    congr 1; funext x; refine Fin.ext ?_
    match x with
    | ⟨0, _⟩ => exact h1.symm
    | ⟨1, _⟩ => exact h0.symm
  exact key (ix2 d j) hj

/-! ## Call 2 -/

theorem idx2_1 : ∀ t : Fin cfg2.N, (cfg2.win 1).index t 0 = 0 ∧ (cfg2.win 1).index t 1 = t.val := by decide +kernel
theorem idx2_3 : ∀ t : Fin cfg2.N, (cfg2.win 3).index t 0 = t.val ∧ (cfg2.win 3).index t 1 = 0 := by decide +kernel

theorem col_lt (t : Fin cfg2.N) (b : Fin 512) : 512 * t.val + b.val < 100352 := by
  have := lt_of_lt_of_eq t.isLt (show cfg2.N = 196 from by decide)
  omega

theorem mtBlk_apply (W : Vals (F := F)) (t : Fin cfg2.N) (a : Fin 32) (b : Fin 512) :
    mtBlk W c t (ix2 a b) = mtA (W c) (ix2 a ⟨512 * t.val + b.val, col_lt t b⟩) := by
  show W c (Proc.devRef .tc main_v4) ((win2_1.rect t).emb (ix2 a b)) = W c (Proc.devRef .tc main_v4) _
  congr 1; funext x; refine Fin.ext ?_
  match x with
  | ⟨0, _⟩ =>
    refine (Pipeline.Window.rect_emb_val win2_1 t _ 0).trans ?_
    show (cfg2.win 1).index t 0 * 32 + a.val = _
    rw [(idx2_1 t).1]; show _ = a.val; omega
  | ⟨1, _⟩ =>
    refine (Pipeline.Window.rect_emb_val win2_1 t _ 1).trans ?_
    show (cfg2.win 1).index t 1 * 512 + b.val = _
    rw [(idx2_1 t).2]; show _ = 512 * t.val + b.val; omega

theorem k2_pay41_apply (v : Vec F S32x512 .f32) (a : Fin 512) (b : Fin 32) : k2_pay41 v (ix2 a b) = v (ix2 b a) := by
  unfold k2_pay41
  rw [shapeCast_self]
  exact transpose_ix2_apply v _ a b

/-- The losses that call 2 leaves. -/
theorem loss_value (h : Step 2 c V V') : lossA V' = k2_pay2 (acc (fun _ => V) c 196) := by
  have e := (dat2 (fun _ => V) c).toR_arrAt 2 cfg2.N _ (h.1 2)
  have hl : (dat2 (fun _ => V) c).after 2 ⟨195, by decide⟩ = k2_pay2 (acc (fun _ => V) c 196) := after2_2 _ _ _
  generalize k2_pay2 (acc (fun _ => V) c 196) = L at hl ⊢
  refine e.trans ?_
  refine (dat2 (fun _ => V) c).arrAt_eq_of_after_last 2 ⟨195, by decide⟩ (by decide +kernel) _ fun j => ?_
  rw [hl]
  rfl

/-- The copy of the memory that call 2 leaves. -/
theorem copy_value (h : Step 2 c V V') (j : Fin 100000) (d : Fin 32) :
    copyA V' (ix2 j d) = mtA V (ix2 d ⟨j.val, lt_trans j.isLt (by decide)⟩) := by
  have e := (dat2 (fun _ => V) c).toR_arrAt 3 cfg2.N _ (h.1 3)
  have key : copyA V' = fun i => mtA V (ix2 (i 1) ⟨(i 0).val, lt_trans (i 0).isLt (by decide)⟩) := by
    refine e.trans ?_
    refine (dat2 (fun _ => V) c).arrAt_eq_of_covers 3 _ (by decide +kernel) fun t hf y => ?_
    have h0 : (((cfg2.win 3).rect t).emb y 0 : Nat) = 512 * t.val + y 0 := by
      refine (Pipeline.Window.rect_emb_val win2_3 t _ 0).trans ?_
      show (cfg2.win 3).index t 0 * 512 + _ = _
      rw [(idx2_3 t).1]; omega
    have h1 : (((cfg2.win 3).rect t).emb y 1 : Nat) = y 1 := by
      refine (Pipeline.Window.rect_emb_val win2_3 t _ 1).trans ?_
      show (cfg2.win 3).index t 1 * 32 + _ = _
      rw [(idx2_3 t).2]; omega
    show k2_pay41 (mtBlk (fun _ => V) c t) ((cfg2.win 3).xinj _ y) = _
    refine (congrArg (k2_pay41 (mtBlk (fun _ => V) c t)) (eq_ix2 (n0 := 512) (n1 := 32) ((cfg2.win 3).xinj _ y))).trans
      ((k2_pay41_apply _ _ _).trans ((mtBlk_apply (fun _ => V) t _ _).trans ?_))
    refine congrArg (mtA V) ?_
    funext x; refine Fin.ext ?_
    match x with
    | ⟨0, _⟩ => exact h1.symm
    | ⟨1, _⟩ => exact h0.symm
  rw [key]

/-! ## Call 3 -/

theorem idx3 : ∀ (t : Fin cfg3.N) (w : Fin cfg3.W) (a : Fin (cfg3.win w).shape.rank), (cfg3.win w).index t a = 0 := by decide +kernel

theorem blk3_whole (w : Fin cfg3.W) (t : Fin cfg3.N) (y : ((cfg3.win w).xblock (cfg3.grid.coords t)).Idx)
    (a : Fin (cfg3.win w).shape.rank) : (((cfg3.win w).rect t).emb y a : Nat) = y a :=
  Pipeline.Window.rect_emb_val_of_index_zero _ _ _ (idx3 t w a) y

theorem blk3_1 (W : Vals (F := F)) (t : Fin cfg3.N) : (blk3 W c 1 t : Vec F S1024x1 .f32) = lossA (W c) := by
  funext y
  show W c (Proc.devRef .tc main_v5_0) ((win3_1.rect t).emb y) = W c (Proc.devRef .tc main_v5_0) y
  congr 1; funext a; exact Fin.ext (blk3_whole 1 t y a)
theorem blk3_2 (W : Vals (F := F)) (t : Fin cfg3.N) : (blk3 W c 2 t : Vec F S1024x32 .f32) = encA (W c) := by
  funext y
  show W c (Proc.devRef .tc main_v3) ((win3_2.rect t).emb y) = W c (Proc.devRef .tc main_v3) y
  congr 1; funext a; exact Fin.ext (blk3_whole 2 t y a)
theorem blk3_0 (W : Vals (F := F)) (t : Fin cfg3.N) (a : Fin 2000) (b : Fin 32) :
    (blk3 W c 0 t : Vec F S2000x32 .f32) (ix2 a b) = copyA (W c) (ix2 ⟨a.val, lt_trans a.isLt (by decide)⟩ b) := by
  show W c (Proc.devRef .tc main_v5_1) ((win3_0.rect t).emb (ix2 a b)) = W c (Proc.devRef .tc main_v5_1) _
  congr 1; funext x; refine Fin.ext ((blk3_whole 0 t _ x).trans ?_)
  match x with
  | ⟨0, _⟩ => rfl
  | ⟨1, _⟩ => rfl

/-- The memory's first rows as call 3 leaves them. -/
theorem out_value (h : Step 3 c V V') (j : Fin 2000) (d : Fin 32) :
    outA V' (ix2 ⟨j.val, lt_trans j.isLt (by decide)⟩ d)
      = fixBlk (fun _ => V) c ⟨0, by decide⟩ (ix2 j d) := by
  have e := (dat3 (fun _ => V) c).toR_arrAt 3 cfg3.N _ (h.1 3)
  refine (congrFun e _).trans ?_
  have k := (dat3 (fun _ => V) c).arrAt_emb_eq_flushed 3
    (fun t t' _ _ hne => absurd ((show ∀ t t' : Fin cfg3.N, t = t' from by decide) t t') hne) ⟨0, by decide⟩ (flush3_3 _) (ix2 j d)
  refine Eq.trans (congrArg _ ?_) k
  funext x; refine Fin.ext (Eq.trans ?_ (blk3_whole 3 _ _ x).symm)
  match x with
  | ⟨0, _⟩ => rfl
  | ⟨1, _⟩ => rfl

/-- The other rows stay. -/
theorem out_rest (h : Step 3 c V V') (j : Fin 100000) (hj : 2000 ≤ j.val) (d : Fin 32) : outA V' (ix2 j d) = outA V (ix2 j d) := by
  have e := (dat3 (fun _ => V) c).toR_arrAt 3 cfg3.N _ (h.1 3)
  refine (congrFun e _).trans ?_
  refine (dat3 (fun _ => V) c).arrAt_apply_of_forall_not_mem 3 cfg3.N (ix2 j d) fun t _ _ hm => ?_
  obtain ⟨y, hy⟩ := View.exists_emb_of_mem_set _ hm
  have h0 := (blk3_whole 3 t y 0).symm.trans (congrArg (fun i : S100000x32.Idx => (i 0).val) hy)
  have := (y 0).isLt
  have : (y 0).val < 2000 := this
  have h0 : (y 0).val = j.val := h0
  omega

end Cert.KernelIdeal.Body
-- ==== Proof.Ends.lean ====
/- What the program's results hold at the end, of the arguments. -/
module

public import proofs.«01_k».proof.Proof.Values
public import Idealize.ShloMosaic.Lib.StableHlo.Run

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx
open Idealize.ShloMosaic.StableHlo

variable {F : FTy → Type} [FloatOps F] [Named F]

theorem ops0_v0 (V : Valuation τ sig (Elt F)) : b1A (after hostOps0 V) = shapeCast S1x32 (V (Proc.devRef .tc main_arg2)) shapeCasts_S32_S1x32 := by
  unfold b1A; after_results_simp <;> rfl
theorem ops0_v1 (V : Valuation τ sig (Elt F)) : meanA (after hostOps0 V) = shapeCast S1x16 (V (Proc.devRef .tc main_arg4)) shapeCasts_S16_S1x16 := by
  unfold meanA; after_results_simp <;> rfl
theorem ops0_v2 (V : Valuation τ sig (Elt F)) : stdA (after hostOps0 V) = shapeCast S1x16 (V (Proc.devRef .tc main_arg5)) shapeCasts_S16_S1x16 := by
  unfold stdA; after_results_simp <;> rfl
theorem ops3_v6 (V : Valuation τ sig (Elt F)) : outA (after hostOps3 V) = copyA V := by
  unfold outA; after_results_simp <;> rfl
theorem ops4_v7 (V : Valuation τ sig (Elt F)) : resA (after hostOps4 V) = shapeCast S1024 (lossA V) shapeCasts_S1024x1_S1024 := by
  unfold resA; after_results_simp <;> rfl

variable (m : (ℓ : Loc nD τ sig) → Buf (Elt F) ℓ) (c : Dev nD)

/-- The encoding, of the arguments. -/
def encM : Vec F S1024x32 .f32 :=
  k0_pay1 (shapeCast S1x16 (m ((c.tc : Thread nD τ).loc main_arg5)) shapeCasts_S16_S1x16) (m ((c.tc : Thread nD τ).loc main_arg0))
    (shapeCast S1x16 (m ((c.tc : Thread nD τ).loc main_arg4)) shapeCasts_S16_S1x16) (m ((c.tc : Thread nD τ).loc main_arg1))
    (shapeCast S1x32 (m ((c.tc : Thread nD τ).loc main_arg2)) shapeCasts_S32_S1x32)

/-- The memory argument. -/
def memM : Vec F S100000x32 .f32 := m ((c.tc : Thread nD τ).loc main_arg3)

variable {m c}

/-- The memory's first rows. -/
def topRows (M : Vec F S100000x32 .f32) : Vec F S1024x32 .f32 := fun y => M (ix2 ⟨(y 0).val, lt_trans (y 0).isLt (by decide)⟩ (y 1))

theorem ends {V : Valuation τ sig (Elt F)} (h : At7 m c V) : ∃ W : Valuation τ sig (Elt F),
    encA W = encM m c ∧ (∀ (d : Fin 32) (j : Fin 100352) (hj : j.val < 100000), mtA W (ix2 d j) = memM m c (ix2 ⟨j.val, hj⟩ d))
      ∧ resA V = shapeCast S1024 (k2_pay2 (acc (fun _ => W) c 196)) shapeCasts_S1024x1_S1024
      ∧ ∀ (j : Fin 100000) (d : Fin 32), outA V (ix2 j d)
        = if h : j.val < 1024 then k3_pay2 (k2_pay2 (acc (fun _ => W) c 196)) (encM m c) (topRows (memM m c)) (ix2 ⟨j.val, h⟩ d)
          else memM m c (ix2 j d) := by
  obtain ⟨V6, ⟨V5, ⟨V4, ⟨V3, ⟨V2, ⟨V1, ⟨V0', rfl, rfl⟩, s0⟩, s1⟩, s2⟩, rfl⟩, s3⟩, rfl⟩ := h
  -- the encoding
  have e2 : encA V2 = encM m c := by
    rw [enc_value s0, ops0_v0, ops0_v1, ops0_v2]
    unfold encM xA w1A
    rw [keptOps0 _ main_arg0 (by decide), keptOps0 _ main_arg1 (by decide)]
  have e3 : encA V3 = encM m c := (kept1 s1 main_v3 (by decide)).trans e2
  have e4 : encA V4 = encM m c := (kept2 s2 main_v3 (by decide) (by decide)).trans e3
  have e5 : encA (after hostOps3 V4) = encM m c := (keptOps3 _ main_v3 (by decide)).trans e4
  -- the memory
  have m2 : memA V2 = memM m c := (kept0 s0 main_arg3 (by decide)).trans (keptOps0 _ main_arg3 (by decide))
  have t3 : ∀ (d : Fin 32) (j : Fin 100352) (hj : j.val < 100000), mtA V3 (ix2 d j) = memM m c (ix2 ⟨j.val, hj⟩ d) := fun d j hj => by
    rw [mt_value s1 d j hj, m2]
  have c4 : copyA V4 = memM m c := by
    funext i
    rw [eq_ix2 i]
    refine (copy_value s2 (i 0) (i 1)).trans ?_
    exact t3 (i 1) ⟨(i 0).val, lt_trans (i 0).isLt (by decide)⟩ (i 0).isLt
  have c5 : copyA (after hostOps3 V4) = memM m c := (keptOps3 _ main_v5_1 (by decide)).trans c4
  have o5 : outA (after hostOps3 V4) = memM m c := (ops3_v6 V4).trans c4
  -- the losses
  have l4 := loss_value s2
  have l5 : lossA (after hostOps3 V4) = k2_pay2 (acc (fun _ => V3) c 196) := (keptOps3 _ main_v5_0 (by decide)).trans l4
  have l6 : lossA V6 = k2_pay2 (acc (fun _ => V3) c 196) := (kept3 s3 main_v5_0 (by decide)).trans l5
  refine ⟨V3, e3, t3, ?_, fun j d => ?_⟩
  · rw [ops4_v7, l6]
  · have o7 : outA (after hostOps4 V6) = outA V6 := keptOps4 _ main_v6 (by decide)
    rw [o7]
    generalize k2_pay2 (acc (fun _ => V3) c 196) = L at l5 ⊢
    by_cases hj : j.val < 2000
    · refine (out_value s3 ⟨j.val, hj⟩ d).trans ?_
      unfold fixBlk fixOf
      rw [blk3_1, blk3_2, l5, e5]
      have hh : head (blk3 (fun _ => after hostOps3 V4) c 0 ⟨0, by decide⟩) = topRows (memM m c) := by
        funext y
        show (blk3 (fun _ => after hostOps3 V4) c 0 ⟨0, by decide⟩ : Vec F S2000x32 .f32) _ = _
        refine (congrArg _ (eq_ix2 _)).trans ((blk3_0 _ _ _ _).trans ?_)
        rw [c5]
        rfl
      rw [hh]
      by_cases h1 : j.val < 1024
      · rw [dif_pos h1, dif_pos h1]
      · rw [dif_neg h1]
        refine ((blk3_0 _ _ ⟨j.val, hj⟩ d).trans ?_).trans (dif_neg h1).symm
        rw [c5]
    · rw [out_rest s3 j (by omega) d, o5, dif_neg (by omega)]

end Cert.KernelIdeal.Body
-- ==== Proof.LossMath.lean ====
/- The losses of the second-last call over the extended reals: the least sum of distances over the memory's rows. -/
module

public import proofs.«01_k».proof.Proof.Ends
public import Idealize.ShloMosaic.Lib.ValueIdx
public import Idealize.ShloMosaic.PureOps.Ideal.Laws
public import Idealize.ShloMosaic.PureOps.IdealRules
public import Idealize.ShloMosaic.Lib.ValueLayoutCasts

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic Idealize.ShloMosaic.ValueIdx

/-- A number's distance from zero. -/
def mag (x : EReal) : EReal := max x (-x)

/-- The distance of an encoding's row to a row of the memory. -/
def far (E : Vec Ideal S1024x32 .f32) (M : Vec Ideal S100000x32 .f32) (b : Fin 1024) (j : Fin 100000) : EReal :=
  ∑ d : Fin 32, mag (E (ix2 b d) - M (ix2 j d))

/-- The same for any column, the padded ones at the top. -/
def farN (E : Vec Ideal S1024x32 .f32) (M : Vec Ideal S100000x32 .f32) (b : Fin 1024) (j : ℕ) : EReal :=
  if h : j < 100000 then far E M b ⟨j, h⟩ else ⊤

theorem pad_top : (Named.named κ "pad" 0x7149F2CA#32 : Ideal .f32) = ⊤ := IdealRules.named_const.ideal_named_scalar κ "pad" _ ⊤ rfl
theorem start_top : (Named.named κ "start" 0x7F61B1E6#32 : Ideal .f32) = ⊤ := IdealRules.named_const.ideal_named_scalar κ "start" _ ⊤ rfl

theorem sumTo_eq (t : Fin 32 → Ideal .f32) : ∀ (n : ℕ) (h : n ≤ 32), sumTo t n h = ∑ d : Fin n, (t (d.castLE h) : EReal)
  | 0, _ => by
    rw [Finset.univ_eq_empty, Finset.sum_empty]
    exact Ideal.ofBits_zero_f32
  | n + 1, h => by
    rw [Fin.sum_univ_castSucc, sumTo, sumTo_eq t n]
    rfl

theorem cols_last : ∀ b : Fin 512, Scalar.cmpi .slt (BitVec.ofNat 32 b.val) 160#32 = BitVec.ofBool (decide (b.val < 160)) := by decide +kernel
theorem cols_all : ∀ b : Fin 512, Scalar.cmpi .slt (BitVec.ofNat 32 b.val) 512#32 = 1#1 := by decide +kernel
theorem limit_of : ∀ t : Fin cfg2.N, Scalar.select (Scalar.cmpi .eq (BitVec.ofNat 32 (grid2.coords t 0).val) 195#32) 160#32 512#32
    = if t.val = 195 then 160#32 else 512#32 := by decide +kernel
theorem is_first : ∀ t : Fin cfg2.N, Scalar.cmpi .eq (BitVec.ofNat 32 (grid2.coords t 0).val) 0#32 = if t.val = 0 then 1#1 else 0#1 := by decide +kernel

theorem n2 : cfg2.N = 196 := by decide

/-- The columns past the memory's end are padded. -/
theorem pay40_apply (t : Fin cfg2.N) (v : Vec Ideal S32x512 .f32) (a : Fin 32) (b : Fin 512) :
    (k2_pay40 (grid2.coords t) v (ix2 a b) : EReal) = if 512 * t.val + b.val < 100000 then v (ix2 a b) else ⊤ := by
  have ht := lt_of_lt_of_eq t.isLt n2
  have e1 : (iota .tc S32x512 32 [1] iota_S32x512_d1_w32) (ix2 a b) = BitVec.ofNat 32 b.val := by
    show BitVec.ofNat 32 (0 * 512 + b.val) = _
    rw [Nat.zero_mul, Nat.zero_add]
  have e0 : (k2_pay40 (F := Ideal) (grid2.coords t) v (ix2 a b) : EReal) = (Scalar.select (Scalar.cmpi .slt ((iota .tc S32x512 32 [1] iota_S32x512_d1_w32) (ix2 a b))
    (Scalar.select (Scalar.cmpi .eq (BitVec.ofNat 32 (grid2.coords t 0).val) 195#32) 160#32 512#32))
      (shapeCast S32x512 v shapeCasts_S32x512_S32x512 (ix2 a b)) (Named.named κ "pad" 0x7149F2CA#32 : Ideal .f32) : EReal) := rfl
  rw [e0, e1]
  show (Scalar.select (Scalar.cmpi .slt (BitVec.ofNat 32 b.val)
    (Scalar.select (Scalar.cmpi .eq (BitVec.ofNat 32 (grid2.coords t 0).val) 195#32) 160#32 512#32))
      (shapeCast S32x512 v shapeCasts_S32x512_S32x512 (ix2 a b)) (Named.named κ "pad" 0x7149F2CA#32 : Ideal .f32) : EReal) = _
  rw [limit_of, pad_top, shapeCast_self]
  by_cases h : t.val = 195
  · rw [if_pos h, cols_last]
    by_cases h' : b.val < 160
    · rw [if_pos (by omega), decide_eq_true h']; rfl
    · rw [if_neg (by omega), decide_eq_false h']; rfl
  · rw [if_neg h, cols_all, if_pos (by omega)]; rfl

variable {W : Valuation τ sig (Elt Ideal)} {c : Dev nD} {E : Vec Ideal S1024x32 .f32} {M : Vec Ideal S100000x32 .f32}

theorem sum_top : ∀ n : ℕ, (∑ _d : Fin (n + 1), (⊤ : EReal)) = ⊤
  | 0 => by rw [Fin.sum_univ_one]
  | n + 1 => by rw [Fin.sum_univ_castSucc, sum_top n]; rfl

/-- A block's sum of distances at a column. -/
theorem dist1_eq (hE : encA W = E) (hM : ∀ (d : Fin 32) (j : Fin 100352) (hj : j.val < 100000), mtA W (ix2 d j) = M (ix2 ⟨j.val, hj⟩ d))
    (t : Fin cfg2.N) (r : Fin 1024) (l : Fin 128) (ct : Fin 4) :
    (dist1 (k2_pay40 (grid2.coords t) (mtBlk (fun _ => W) c t)) (spread (encIn (fun _ => W) c)) r l ct : EReal)
      = farN E M r (512 * t.val + (128 * ct.val + l.val)) := by
  unfold dist1
  rw [sumTo_eq]
  unfold farN
  have hs : ∀ d : Fin 32, (spread (encIn (fun _ => W) c) (ix3 d r l) : EReal) = E (ix2 r d) := fun d => congrFun hE (ix2 r d)
  by_cases h : 512 * t.val + (128 * ct.val + l.val) < 100000
  · rw [dif_pos h]
    refine Finset.sum_congr rfl fun d _ => ?_
    show mag (_ - _) = _
    rw [hs, pay40_apply, if_pos h, mtBlk_apply, hM _ _ h]
    rfl
  · rw [dif_neg h]
    have : ∀ d : Fin 32, (FloatOps.absf (FloatOps.subf (spread (encIn (fun _ => W) c) (ix3 d r l))
        (k2_pay40 (grid2.coords t) (mtBlk (fun _ => W) c t) (ix2 d (lane ct l))) : Ideal .f32) : EReal) = ⊤ := fun d => by
      show mag (_ - _) = _
      rw [pay40_apply, if_neg h]
      unfold mag
      simp
    exact (Finset.sum_congr rfl fun d _ => this d).trans (sum_top 31)

/-- The running minimum after some blocks: the bounds below it. -/
theorem le_acc (hE : encA W = E) (hM : ∀ (d : Fin 32) (j : Fin 100352) (hj : j.val < 100000), mtA W (ix2 d j) = M (ix2 ⟨j.val, hj⟩ d))
    (z : EReal) (r : Fin 1024) (l : Fin 128) : ∀ n, n < 196 → (z ≤ (acc (fun _ => W) c (n + 1) (ix2 r l) : EReal)
      ↔ ∀ i ≤ n, ∀ ct : Fin 4, z ≤ farN E M r (512 * i + (128 * ct.val + l.val)))
  | n, hn => by
    have ha := acc_succ (fun _ => W) c (⟨n, lt_of_lt_of_eq hn n2.symm⟩ : Fin cfg2.N)
    have hs : (acc (fun _ => W) c (n + 1) (ix2 r l) : EReal)
      = min (if n = 0 then ⊤ else (acc (fun _ => W) c n (ix2 r l) : EReal))
          (min (min (min (farN E M r (512 * n + (128 * (0 : Fin 4).val + l.val))) (farN E M r (512 * n + (128 * (1 : Fin 4).val + l.val))))
            (farN E M r (512 * n + (128 * (2 : Fin 4).val + l.val)))) (farN E M r (512 * n + (128 * (3 : Fin 4).val + l.val)))) := by
      rw [show acc (fun _ => W) c (n + 1) = _ from ha]
      unfold accOf
      rw [dist1_eq hE hM, dist1_eq hE hM, dist1_eq hE hM, dist1_eq hE hM, is_first, start_top]
      by_cases h0 : n = 0
      · rw [if_pos h0, if_pos h0]; rfl
      · rw [if_neg h0, if_neg h0]; rfl
    rw [hs, le_min_iff, le_min_iff, le_min_iff, le_min_iff]
    have h4 : ∀ P : Fin 4 → Prop, (∀ ct, P ct) ↔ ((P 0 ∧ P 1) ∧ P 2) ∧ P 3 := fun P =>
      ⟨fun h => ⟨⟨⟨h 0, h 1⟩, h 2⟩, h 3⟩, fun h ct => by
        match ct with
        | ⟨0, _⟩ => exact h.1.1.1
        | ⟨1, _⟩ => exact h.1.1.2
        | ⟨2, _⟩ => exact h.1.2
        | ⟨3, _⟩ => exact h.2⟩
    rw [← h4 (fun ct => z ≤ farN E M r (512 * n + (128 * ct.val + l.val)))]
    cases n with
    | zero =>
      rw [if_pos rfl]
      exact ⟨fun h i hi ct => by obtain rfl := Nat.le_zero.1 hi; exact h.2 ct, fun h => ⟨le_top, h 0 le_rfl⟩⟩
    | succ k =>
      rw [if_neg (Nat.succ_ne_zero k), le_acc hE hM z r l k (by omega)]
      refine ⟨fun h i hi ct => ?_, fun h => ⟨fun i hi => h i (by omega), h (k + 1) le_rfl⟩⟩
      rcases Nat.lt_or_ge i (k + 1) with hlt | hge
      · exact h.1 i (by omega) ct
      · obtain rfl : i = k + 1 := by omega
        exact h.2 ct

theorem ofBits_inf : Ideal.ofBits .f32 0x7F800000#32 = ⊤ := by
  simp [Ideal.ofBits, Ideal.ieee]

/-- The minimum over the lanes: the bounds below it. -/
theorem le_pay2 (A : Vec Ideal S1024x128 .f32) (z : EReal) (r : Fin 1024) :
    z ≤ (k2_pay2 A (ix2 r (0 : Fin 1)) : EReal) ↔ ∀ l : Fin 128, z ≤ (A (ix2 r l) : EReal) := by
  have e : (k2_pay2 A (ix2 r (0 : Fin 1)) : EReal)
      = (Finset.univ : Finset (Fin 128)).fold min ⊤ (fun l => (A (ix2 r l) : EReal)) := by
    unfold k2_pay2
    refine (shapeCast_a_a1_apply _ shapeCasts_S1024_S1024x1 r 0).trans ?_
    refine (multiReduction_minimumf_eq_fold _ _ reduces_S1024x128_S1024 _ rfl (ix1 r)).trans ?_
    refine (reduces_S1024x128_S1024.fold_filter_drop_single _ _ _ _).trans ?_
    refine Eq.trans (b := (Finset.univ : Finset (Fin 128)).fold min (Ideal.ofBits .f32 0x7F800000#32)
      (A ∘ reduces_S1024x128_S1024.lift (ix1 r))) rfl ?_
    rw [ofBits_inf]
    refine Finset.fold_congr fun l _ => ?_
    refine congrArg A (funext fun a => ?_)
    match a with
    | ⟨0, _⟩ => rfl
    | ⟨1, _⟩ => rfl
  rw [e, Finset.le_fold_min]
  exact ⟨fun h l => h.2 l (Finset.mem_univ _), fun h => ⟨le_top, fun l _ => h l⟩⟩

/-- The losses the call leaves: the bounds below one. -/
theorem le_loss (hE : encA W = E) (hM : ∀ (d : Fin 32) (j : Fin 100352) (hj : j.val < 100000), mtA W (ix2 d j) = M (ix2 ⟨j.val, hj⟩ d))
    (z : EReal) (r : Fin 1024) :
    z ≤ (k2_pay2 (acc (fun _ => W) c 196) (ix2 r (0 : Fin 1)) : EReal) ↔ ∀ j : Fin 100000, z ≤ far E M r j := by
  rw [le_pay2]
  refine ⟨fun h j => ?_, fun h l => (le_acc hE hM z r l 195 (by omega)).2 fun i hi ct => ?_⟩
  · have hj := j.isLt
    have := (le_acc hE hM z r ⟨j.val % 128, by omega⟩ 195 (by omega)).1 (h _) (j.val / 512) (by omega) ⟨j.val % 512 / 128, by omega⟩
    have e : 512 * (j.val / 512) + (128 * (j.val % 512 / 128) + j.val % 128) = j.val := by omega
    simp only [e] at this
    unfold farN at this
    rw [dif_pos hj] at this
    exact this
  · unfold farN
    split
    · exact h _
    · exact le_top

end Cert.KernelIdeal.Body
-- ==== Proof.RefMath.lean ====
/- The reference's results over the extended reals, named part by part, and its encoding and losses read as the kernel's. -/
module

public import proofs.«01_k».proof.Proof.LossMath
public import proofs.«01_k».proof.Proof.Gen.ReferenceIdeal.Run
public import Idealize.ShloMosaic.Lib.KernelVsHost
public import Idealize.ShloMosaic.Lib.IdealHost

@[expose] public section

set_option maxRecDepth 16384

noncomputable section

namespace Cert.ReferenceIdeal.Body

open Cert.ReferenceIdeal Cert.ReferenceIdeal.Gen
open Idealize.ShloMosaic Idealize.SL.Sem
open Idealize.ShloMosaic.TcCoe Idealize.ShloMosaic.ValueIdx
open Cert.KernelIdeal.Body (far ofBits_inf)

/-- The features whose deviation is zero. -/
def zeroR (std : FVec Ideal S16 .f32) : IVec S16 1 := cmpf .oeq std (broadcastInDim S16 ![] bcast_S_S16 (constant S_ .f32 0x00000000#32))

/-- A vector laid along the rows of the batch. -/
def rowsR {α : Type} (v : S16.Idx → α) : S1024x16.Idx → α :=
  broadcastInDim S1024x16 ![0, 1] bcast_S1x16_S1024x16_0_1 (broadcastInDim S1x16 ![1] bcast_S16_S1x16_1 v)

/-- The normalised batch. -/
def normR (x : FVec Ideal S1024x16 .f32) (mean std : FVec Ideal S16 .f32) : FVec Ideal S1024x16 .f32 :=
  select (rowsR (zeroR std)) (broadcastInDim S1024x16 ![] bcast_S_S1024x16 (id (constant S_ .f32 0x00000000#32)))
    (Host.divf (subf x (rowsR mean)) (rowsR (select (zeroR std) (broadcastInDim S16 ![] bcast_S_S16 (id (constant S_ .f32 0x3F800000#32))) std)))

/-- The encoding. -/
def encR (x : FVec Ideal S1024x16 .f32) (w : FVec Ideal S16x32 .f32) (b : FVec Ideal S32 .f32) (mean std : FVec Ideal S16 .f32) : FVec Ideal S1024x32 .f32 :=
  Host.tanh (addf (Host.dotGeneral dot_S1024x16_S16x32_S1024x32_1_0_0_1_n_n none (normR x mean std) w)
    (broadcastInDim S1024x32 ![0, 1] bcast_S1x32_S1024x32_0_1 (broadcastInDim S1x32 ![1] bcast_S32_S1x32_1 b)))

/-- The distances of every encoding to every row of the memory. -/
def distR (E : FVec Ideal S1024x32 .f32) (M : FVec Ideal S100000x32 .f32) : FVec Ideal S1024x100000 .f32 :=
  Host.reduceAdd (Host.absf (subf (broadcastInDim S1024x100000x32 ![0, 1, 2] bcast_S1024x1x32_S1024x100000x32_0_1_2 (broadcastInDim S1024x1x32 ![0, 2] bcast_S1024x32_S1024x1x32_0_2 E))
    (broadcastInDim S1024x100000x32 ![0, 1, 2] bcast_S1x100000x32_S1024x100000x32_0_1_2 (broadcastInDim S1x100000x32 ![1, 2] bcast_S100000x32_S1x100000x32_1_2 M))))
    (constant S_ .f32 0x00000000#32) reducesTo_S1024x100000x32_S1024x100000_d2 h_S_

/-- The losses. -/
def lossR (E : FVec Ideal S1024x32 .f32) (M : FVec Ideal S100000x32 .f32) : FVec Ideal S1024 .f32 :=
  Host.reduce FloatOps.minimumf (distR E M) (constant S_ .f32 0x7F800000#32) reducesTo_S1024x100000_S1024_d1 h_S_

/-- The encodings to be stored. -/
def maskR (L : FVec Ideal S1024 .f32) : IVec S1024 1 := cmpf .ole L (broadcastInDim S1024 ![] bcast_S_S1024 (constant S_ .f32 0x3F800000#32))

/-- The memory's length, as the remainder takes it. -/
def lenR : IVec S_ 32 := select (cmpi .eq (id (constantI S_ 32 100000#32)) (constantI S_ 32 0#32)) (constantI S_ 32 1#32) (id (constantI S_ 32 100000#32))

/-- A stored encoding's number. -/
def numR (L : FVec Ideal S1024 .f32) : IVec S1024 32 :=
  subi (Host.reduceWindow IntOp.addi ![1024] ![1] ![1023] ![0] (extui 32 (maskR L) natLt_1_32) (broadcastInDim S_ ![] bcast_S_S_ (constantI S_ 32 0#32)) reduceWindows_S1024_S1024_w1024s1p1023_0 h_S_)
    (broadcastInDim S1024 ![] bcast_S_S1024 (constantI S_ 32 1#32))

/-- The signed remainder of a number. -/
def cutR (n : IVec S1024 32) : IVec S1024 32 := Host.remsi n (broadcastInDim S1024 ![] bcast_S_S1024 lenR)

/-- The remainder brought to the length's sign. -/
def modR (n : IVec S1024 32) : IVec S1024 32 :=
  select (andi (cmpi .ne (cmpi .slt (cutR n) (broadcastInDim S1024 ![] bcast_S_S1024 (constantI S_ 32 0#32)))
      (broadcastInDim S1024 ![] bcast_S_S1024 (cmpi .slt lenR (constantI S_ 32 0#32))))
    (cmpi .ne (cutR n) (broadcastInDim S1024 ![] bcast_S_S1024 (constantI S_ 32 0#32))))
    (addi (cutR n) (broadcastInDim S1024 ![] bcast_S_S1024 lenR)) (cutR n)

/-- The row each encoding goes to. -/
def posR (L : FVec Ideal S1024 .f32) : IVec S1024 32 :=
  select (maskR L) (modR (numR L)) (broadcastInDim S1024 ![] bcast_S_S1024 (id (constantI S_ 32 100000#32)))

/-- The rows as the scatter takes them. -/
def idxR (L : FVec Ideal S1024 .f32) : IVec S1024x1 32 :=
  broadcastInDim S1024x1 ![0] bcast_S1024_S1024x1_0 (select (cmpi .slt (posR L) (broadcastInDim S1024 ![] bcast_S_S1024 (constantI S_ 32 0#32)))
    (addi (posR L) (broadcastInDim S1024 ![] bcast_S_S1024 (constantI S_ 32 100000#32))) (posR L))

/-- The new memory. -/
def outR (L : FVec Ideal S1024 .f32) (E : FVec Ideal S1024x32 .f32) (M : FVec Ideal S100000x32 .f32) : FVec Ideal S100000x32 .f32 :=
  Host.scatter scatter_S100000x32_S1024x1_S1024x32_1_0_0_1 (fun _ b => b) M (idxR L) E

variable (m : (ℓ : Loc nD τ sig) → Buf (Elt Ideal) ℓ) (c : Dev nD)

/-- The encoding of a launch's arguments. -/
def encRm : FVec Ideal S1024x32 .f32 :=
  encR (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5))

/-- The memory argument. -/
def memRm : FVec Ideal S100000x32 .f32 := m ((c.tc : Thread nD τ).loc main_arg3)

theorem out_eq : Value.res_main_v38 (F := Ideal) m c = outR (lossR (encRm m c) (memRm m c)) (encRm m c) (memRm m c) := by
  unfold Value.res_main_v38
  rfl

/-- The runs end with the parts named here. -/
theorem runR (ρ : Dev nD → PrngReg) : θ_run (defs (F := Ideal)) (onTc (τ := τ) (main (F := Ideal))) ⟨m, fun _ => 0, ρ⟩ fun r => ∀ c : Dev nD,
      r.2.mem ((c.tc : Thread nD τ).loc main_v23) = lossR (encRm m c) (memRm m c)
      ∧ r.2.mem ((c.tc : Thread nD τ).loc main_v38) = outR (lossR (encRm m c) (memRm m c)) (encRm m c) (memRm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans rfl, (h c).2.1.trans (out_eq m c), (h c).2.2⟩) (Value.run m ρ)

theorem dist_red : S1024x100000x32.Reduces [2] S1024x100000 := ⟨rfl, Nat.succ_pos _, reducesTo_S1024x100000x32_S1024x100000_d2.2⟩
theorem loss_red : S1024x100000.Reduces [1] S1024 := ⟨rfl, Nat.succ_pos _, reducesTo_S1024x100000_S1024_d1.2⟩

theorem distR_apply (E : FVec Ideal S1024x32 .f32) (M : FVec Ideal S100000x32 .f32) (b : Fin 1024) (j : Fin 100000) :
    (distR E M (ix2 b j) : EReal) = far E M b j := by
  refine (Ideal.hostReduceAdd_single reducesTo_S1024x100000x32_S1024x100000_d2 dist_red _ _ (ix2 b j)).trans ?_
  rw [show (constant (F := Ideal) S_ .f32 0x00000000#32) (Shape.Idx.first h_S_) = (0 : EReal) from Ideal.ofBits_zero_f32, zero_add]
  refine Finset.sum_congr rfl fun d _ => ?_
  have hl : dist_red.lift (ix2 b j) d = ix3 b j d := funext fun a => by
    match a with
    | ⟨0, _⟩ => rfl
    | ⟨1, _⟩ => rfl
    | ⟨2, _⟩ => rfl
  rw [hl]
  refine congrArg Cert.KernelIdeal.Body.mag (congrArg₂ (· - ·) ?_ ?_)
  · refine (broadcastInDim_apply _ _ _ _ (ix3 b (0 : Fin 1) d) fun a => ?_).trans (broadcastInDim_apply _ _ _ _ (ix2 b d) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ _ (ix3 (0 : Fin 1) j d) fun a => ?_).trans (broadcastInDim_apply _ _ _ _ (ix2 j d) fun a => ?_)
    · match a with
      | ⟨0, _⟩ => rfl
      | ⟨1, _⟩ => rfl
      | ⟨2, _⟩ => rfl
    · match a with
      | ⟨0, _⟩ => rfl
      | ⟨1, _⟩ => rfl

/-- The reference's losses: the bounds below one. -/
theorem le_lossR (E : FVec Ideal S1024x32 .f32) (M : FVec Ideal S100000x32 .f32) (z : EReal) (b : Fin 1024) :
    z ≤ (lossR E M (ix1 b) : EReal) ↔ ∀ j : Fin 100000, z ≤ far E M b j := by
  have e : (lossR E M (ix1 b) : EReal) = (Finset.univ : Finset (Fin 100000)).fold min ⊤ (fun j => far E M b j) := by
    refine (Host.reduce_eq_fold_single FloatOps.minimumf (distR E M) _ reducesTo_S1024x100000_S1024_d1 loss_red h_S_ (ix1 b)).trans ?_
    refine Eq.trans (b := (Finset.univ : Finset (Fin 100000)).fold min (Ideal.ofBits .f32 0x7F800000#32) (distR E M ∘ loss_red.lift (ix1 b))) rfl ?_
    rw [ofBits_inf]
    refine Finset.fold_congr fun j _ => ?_
    refine Eq.trans (congrArg (distR E M) (funext fun a => ?_)) (distR_apply E M b j)
    match a with
    | ⟨0, _⟩ => rfl
    | ⟨1, _⟩ => rfl
  rw [e, Finset.le_fold_min]
  exact ⟨fun h l => h.2 l (Finset.mem_univ _), fun h => ⟨le_top, fun l _ => h l⟩⟩

theorem rowsR_apply {α : Type} (v : S16.Idx → α) (r : Fin 1024) (k : Fin 16) : rowsR v (ix2 r k) = v (ix1 k) := by
  refine (broadcastInDim_apply _ _ _ _ (ix2 (0 : Fin 1) k) fun a => ?_).trans (broadcastInDim_apply _ _ _ _ (ix1 k) fun a => ?_)
  · match a with
    | ⟨0, _⟩ => rfl
    | ⟨1, _⟩ => rfl
  · match a with
    | ⟨0, _⟩ => rfl

/-- The kernel's encoding of the reshaped arguments is the reference's. -/
theorem enc_same (x : FVec Ideal S1024x16 .f32) (w : FVec Ideal S16x32 .f32) (b : FVec Ideal S32 .f32) (mean std : FVec Ideal S16 .f32) :
    Cert.KernelIdeal.Gen.k0_pay1 (shapeCast S1x16 std Cert.KernelIdeal.Gen.shapeCasts_S16_S1x16) x (shapeCast S1x16 mean Cert.KernelIdeal.Gen.shapeCasts_S16_S1x16) w
      (shapeCast S1x32 b Cert.KernelIdeal.Gen.shapeCasts_S32_S1x32) = encR x w b mean std := by
  unfold Cert.KernelIdeal.Gen.k0_pay1 encR
  simp only [shapeCast_self]
  refine congrArg (Host.tanh (F := Ideal) (s := S1024x32) (φ := .f32)) (congrArg₂ (addf (F := Ideal) (s := S1024x32) (φ := .f32)) ?_ ?_)
  · refine (matmul_zero_eq_dotGeneral _ _ _ _).trans (congrArg (fun n => Host.dotGeneral dot_S1024x16_S16x32_S1024x32_1_0_0_1_n_n none n w) ?_)
    funext i
    obtain ⟨r, k, rfl⟩ : ∃ (r : Fin 1024) (k : Fin 16), i = ix2 r k := ⟨i 0, i 1, eq_ix2 i⟩
    unfold normR
    show Scalar.select _ _ (Ideal.div (_ - _) _) = Scalar.select _ _ (Ideal.div (_ - _) _)
    rw [rowsR_apply, rowsR_apply, rowsR_apply]
    have hb : ∀ {α : Type} (v : Cert.KernelIdeal.S1x16.Idx → α), broadcastTo Cert.KernelIdeal.S1024x16 v Cert.KernelIdeal.Gen.broadcasts_S1x16_S1024x16 (ix2 r k) = v (ix2 (0 : Fin 1) k) :=
      fun v => broadcastTo_1b_ab_apply v _ r k
    rw [hb, hb, hb]
    have hs : shapeCast S1x16 std Cert.KernelIdeal.Gen.shapeCasts_S16_S1x16 (ix2 (0 : Fin 1) k) = std (ix1 k) := shapeCast_a_1a_apply std _ 0 k
    have hm : shapeCast S1x16 mean Cert.KernelIdeal.Gen.shapeCasts_S16_S1x16 (ix2 (0 : Fin 1) k) = mean (ix1 k) := shapeCast_a_1a_apply mean _ 0 k
    rw [hm]
    have hz : cmpf .oeq (shapeCast S1x16 std Cert.KernelIdeal.Gen.shapeCasts_S16_S1x16) (broadcast Cert.KernelIdeal.S1x16 (Scalar.ofBits .f32 0x00000000#32 : Ideal .f32)) (ix2 (0 : Fin 1) k)
        = zeroR std (ix1 k) := by
      show FloatOps.cmpf .oeq _ _ = FloatOps.cmpf .oeq _ _
      rw [hs]
      rfl
    rw [hz]
    refine congrArg₂ (fun (z q : EReal) => Scalar.select (zeroR std (ix1 k)) z (Ideal.div (x (ix2 r k) - mean (ix1 k)) q)) rfl ?_
    show Scalar.select _ _ _ = Scalar.select _ _ _
    rw [hz, hs]
    rfl
  · funext i
    obtain ⟨r, k, rfl⟩ : ∃ (r : Fin 1024) (k : Fin 32), i = ix2 r k := ⟨i 0, i 1, eq_ix2 i⟩
    refine (broadcastTo_1b_ab_apply _ _ r k).trans ((shapeCast_a_1a_apply b _ 0 k).trans ?_)
    refine ((broadcastInDim_apply _ _ _ _ (ix2 (0 : Fin 1) k) fun a => ?_).trans (broadcastInDim_apply _ _ _ _ (ix1 k) fun a => ?_)).symm
    · match a with
      | ⟨0, _⟩ => rfl
      | ⟨1, _⟩ => rfl
    · match a with
      | ⟨0, _⟩ => rfl

end Cert.ReferenceIdeal.Body
-- ==== Proof.Counts.lean ====
/- Counting the stored encodings of a batch: the number of each, and the encoding each number belongs to. -/
module

public import proofs.«01_k».proof.Proof.LossMath

@[expose] public section

set_option maxRecDepth 16384

noncomputable section

namespace Cert.KernelIdeal.Body

open Classical in
/-- One for an encoding to be stored, whose loss is at most one; zero for another, and past the batch. -/
def stored (l : Fin 1024 → EReal) (i : ℕ) : ℕ := if h : i < 1024 then if l ⟨i, h⟩ ≤ 1 then 1 else 0 else 0

/-- The encodings to be stored up to one, itself counted. -/
def count (f : ℕ → ℕ) (b : ℕ) : ℕ := ∑ i ∈ Finset.range (b + 1), f i

theorem stored_le (l : Fin 1024 → EReal) (i : ℕ) : stored l i ≤ 1 := by
  unfold stored; split
  · split <;> omega
  · omega

theorem count_succ (f : ℕ → ℕ) (b : ℕ) : count f (b + 1) = count f b + f (b + 1) := Finset.sum_range_succ f (b + 1)

variable {f : ℕ → ℕ}

theorem count_mono {b b' : ℕ} (h : b ≤ b') : count f b ≤ count f b' := by
  induction h with
  | refl => exact le_rfl
  | step _ ih => rw [count_succ]; omega

theorem count_lt {b b' : ℕ} (h : b < b') (hb : f b' = 1) : count f b < count f b' := by
  obtain ⟨k, rfl⟩ : ∃ k, b' = k + 1 := ⟨b' - 1, by omega⟩
  have := count_mono (f := f) (Nat.lt_succ_iff.1 h)
  rw [count_succ]; omega

theorem count_inj {b b' : ℕ} (h : f b = 1) (h' : f b' = 1) (e : count f b = count f b') : b = b' := by
  rcases Nat.lt_trichotomy b b' with hl | rfl | hl
  · have := count_lt hl h'; omega
  · rfl
  · have := count_lt hl h; omega

theorem count_pos {b : ℕ} (h : f b = 1) : 1 ≤ count f b := by
  unfold count; rw [Finset.sum_range_succ]; omega

theorem count_le (hf : ∀ i, f i ≤ 1) (b : ℕ) : count f b ≤ b + 1 := by
  induction b with
  | zero => have := hf 0; unfold count; rw [Finset.sum_range_succ, Finset.sum_range_zero]; omega
  | succ b ih => have := hf (b + 1); rw [count_succ]; omega

theorem count_exists (hf : ∀ i, f i ≤ 1) {j : ℕ} : ∀ n, j < count f n → ∃ b ≤ n, f b = 1 ∧ count f b = j + 1
  | 0, h => by
    have := hf 0
    have e : count f 0 = f 0 := by unfold count; rw [Finset.sum_range_succ, Finset.sum_range_zero, zero_add]
    exact ⟨0, le_rfl, by omega, by omega⟩
  | n + 1, h => by
    by_cases hn : j < count f n
    · obtain ⟨b, hb, h1, h2⟩ := count_exists hf n hn
      exact ⟨b, by omega, h1, h2⟩
    · have := hf (n + 1)
      rw [count_succ] at h
      exact ⟨n + 1, le_rfl, by omega, by rw [count_succ]; omega⟩

/-- The encoding a count belongs to. -/
theorem count_iff (hf : ∀ i, f i ≤ 1) (j n : ℕ) : j < count f n ↔ ∃ b ≤ n, f b = 1 ∧ count f b = j + 1 :=
  ⟨count_exists hf n, fun ⟨b, hb, _, h2⟩ => by have := count_mono (f := f) hb; omega⟩

/-- A count as a sum of products over the batch. -/
theorem count_products (f : ℕ → ℕ) (b : Fin 1024) : ∑ k : Fin 1024, (if k.val ≤ b.val then 1 else 0) * f k.val = count f b.val := by
  rw [Fin.sum_univ_eq_sum_range (fun i => (if i ≤ b.val then 1 else 0) * f i) 1024]
  unfold count
  simp only [ite_mul, one_mul, zero_mul]
  rw [← Finset.sum_filter]
  refine Finset.sum_congr (Finset.ext fun i => ?_) fun _ _ => rfl
  have := b.isLt
  rw [Finset.mem_filter, Finset.mem_range, Finset.mem_range]; omega

theorem count_all (f : ℕ → ℕ) : ∑ k : Fin 1024, f k.val = count f 1023 := Fin.sum_univ_eq_sum_range f 1024

/-- A sum of natural numbers among the extended reals. -/
theorem coe_count {ι : Type} (s : Finset ι) (g : ι → ℕ) : ((((∑ i ∈ s, g i : ℕ) : ℝ)) : EReal) = ∑ i ∈ s, (((g i : ℕ) : ℝ) : EReal) := by
  classical
  induction s using Finset.induction_on with
  | empty => simp
  | insert a s h ih => rw [Finset.sum_insert h, Finset.sum_insert h, Nat.cast_add, EReal.coe_add, ih]

theorem coe_mul_nat (a b : ℕ) : ((((a * b : ℕ) : ℝ)) : EReal) = ((a : ℝ) : EReal) * ((b : ℝ) : EReal) := by
  rw [Nat.cast_mul, EReal.coe_mul]

end Cert.KernelIdeal.Body
-- ==== Proof.FixValue.lean ====
/- The last call's first rows over the extended reals: the counts are whole numbers, and the product picks the encoding a row is given. -/
module

public import proofs.«01_k».proof.Proof.Counts
public import Idealize.ShloMosaic.Lib.MatmulPlain
public import Idealize.ShloMosaic.Lib.IdealHost
public import Idealize.ShloMosaic.Lib.WordArith
public import Idealize.ShloMosaic.Lib.Routing.Ops

@[expose] public section

set_option maxRecDepth 16384

noncomputable section

namespace Cert.KernelIdeal.Body

open Cert.KernelIdeal Cert.KernelIdeal.Gen
open Idealize.ShloMosaic
open Idealize.ShloMosaic.TcCoe Idealize.ShloMosaic.ValueIdx

/-- The flags of the encodings to be stored, as numbers. -/
def flagK (L : Vec Ideal S1024x1 .f32) : FVec Ideal S1024x1 .f32 :=
  sitofp .f32 (extui 32 (cmpf .ole L (broadcast S1024x1 (Scalar.ofBits .f32 0x3F800000#32 : Ideal .f32))) natLt_1_32)

/-- The rows and columns of a square. -/
def rowsK : IVec S1024x1024 32 := iota .tc S1024x1024 32 [0] iota_S1024x1024_d0_w32
def colsK : IVec S1024x1024 32 := iota .tc S1024x1024 32 [1] iota_S1024x1024_d1_w32

/-- The counts. -/
def countK (L : Vec Ideal S1024x1 .f32) : FVec Ideal S1024x1 .f32 :=
  matmul dot_S1024x1024_S1024x1_S1024x1_1_0_0_1_n_n none (sitofp .f32 (extui 32 (cmpi .sle colsK rowsK) natLt_1_32) : FVec Ideal S1024x1024 .f32) (flagK L)
    (constant S1024x1 .f32 0x00000000#32)

/-- One at an encoding and the row it is given. -/
def hotK (L : Vec Ideal S1024x1 .f32) : FVec Ideal S1024x1024 .f32 :=
  sitofp .f32 (extui 32 (andi
    (cmpf .oeq (broadcastTo S1024x1024 (subf (countK L) (broadcast S1024x1 (Scalar.ofBits .f32 0x3F800000#32 : Ideal .f32))) broadcasts_S1024x1_S1024x1024) (sitofp .f32 colsK : FVec Ideal S1024x1024 .f32))
    (broadcastTo S1024x1024 (cmpf .ogt (flagK L) (broadcast S1024x1 (Scalar.ofBits .f32 0x00000000#32 : Ideal .f32))) broadcasts_S1024x1_S1024x1024)) natLt_1_32)

/-- The encodings stored in all. -/
def totalK (L : Vec Ideal S1024x1 .f32) : Ideal .f32 :=
  extractAt ![0, 0, 0] (shapeCast S1x1x1 (multiReduction .add [1, 2] S1 (shapeCast S1x1024x1 (flagK L) shapeCasts_S1024x1_S1x1024x1) 0x00000000#32 reduces_S1x1024x1_S1 (.inl rfl) rfl)
    shapeCasts_S1_S1x1x1) inpos_S1x1x1_p0_0_0

theorem pay3_parts (L : Vec Ideal S1024x1 .f32) (E T : Vec Ideal S1024x32 .f32) : k3_pay2 L E T
    = select (broadcastTo S1024x32 (cmpf .olt (sitofp .f32 (iota .tc S1024x1 32 [0] iota_S1024x1_d0_w32) : FVec Ideal S1024x1 .f32) (broadcast S1024x1 (totalK L))) broadcasts_S1024x1_S1024x32)
        (matmul (φ₁ := .f32) (φ₂ := .f32) dot_S1024x1024_S1024x32_S1024x32_0_0_1_1_n_n none (hotK L) E (constant S1024x32 .f32 0x00000000#32)) T := by
  unfold k3_pay2
  simp only [shapeCast_self]
  rfl

theorem bit_num (p : Prop) [Decidable p] : (FloatOps.sitofp (F := Ideal) .f32 ((BitVec.ofBool (decide p)).setWidth 32) : EReal) = (((if p then 1 else 0 : ℕ) : ℝ) : EReal) := by
  show (((((BitVec.ofBool (decide p)).setWidth 32).toInt : ℝ)) : EReal) = _
  by_cases h : p
  · rw [decide_eq_true h, if_pos h]; simp
  · rw [decide_eq_false h, if_neg h]; simp

theorem word_num {n : ℕ} (h : n < 1024) : (FloatOps.sitofp (F := Ideal) .f32 (BitVec.ofNat 32 n) : EReal) = (((n : ℕ) : ℝ) : EReal) := by
  show ((((BitVec.ofNat 32 n).toInt : ℝ)) : EReal) = _
  rw [StableHlo.Predicate.toInt_ofNat_small _ (by omega)]
  simp

theorem rowsK_apply (r k : Fin 1024) : rowsK (ix2 r k) = BitVec.ofNat 32 r.val := by
  show BitVec.ofNat 32 (0 * 1024 + r.val) = _
  rw [Nat.zero_mul, Nat.zero_add]
theorem colsK_apply (r k : Fin 1024) : colsK (ix2 r k) = BitVec.ofNat 32 k.val := by
  show BitVec.ofNat 32 (0 * 1024 + k.val) = _
  rw [Nat.zero_mul, Nat.zero_add]

variable {L : Vec Ideal S1024x1 .f32} {l : Fin 1024 → EReal}

open Classical in
theorem flagK_apply (hl : ∀ b, L (ix2 b (0 : Fin 1)) = l b) (b : Fin 1024) : (flagK L (ix2 b (0 : Fin 1)) : EReal) = ((stored l b.val : ℝ) : EReal) := by
  have e : (flagK L (ix2 b (0 : Fin 1)) : EReal) = FloatOps.sitofp (F := Ideal) .f32 ((BitVec.ofBool (decide ((L (ix2 b (0 : Fin 1)) : EReal) ≤ Ideal.ofBits .f32 0x3F800000#32))).setWidth 32) := by
    refine congrArg (fun w : BitVec 1 => (FloatOps.sitofp (F := Ideal) .f32 (w.setWidth 32) : EReal)) ?_
    exact congrArg BitVec.ofBool (decide_eq_decide.2 Iff.rfl)
  rw [e, bit_num, Ideal.ofBits_one_f32, hl]
  unfold stored
  rw [dif_pos b.isLt]

theorem countK_apply (hl : ∀ b, L (ix2 b (0 : Fin 1)) = l b) (b : Fin 1024) : (countK L (ix2 b (0 : Fin 1)) : EReal) = ((count (stored l) b.val : ℝ) : EReal) := by
  refine (Ideal.matmul_plain_apply none _ _ _ b (0 : Fin 1)).trans ?_
  rw [show (constant (F := Ideal) S1024x1 .f32 0x00000000#32) (ix2 b (0 : Fin 1)) = (0 : EReal) from Ideal.ofBits_zero_f32, zero_add,
    ← count_products, coe_count]
  refine Finset.sum_congr rfl fun k _ => ?_
  rw [flagK_apply hl, coe_mul_nat]
  refine congrArg (· * _) ?_
  have hw : cmpi .sle colsK rowsK (ix2 b k) = BitVec.ofBool (decide (k.val ≤ b.val)) := by
    show BitVec.ofBool (BitVec.sle (colsK (ix2 b k)) (rowsK (ix2 b k))) = _
    rw [colsK_apply, rowsK_apply]
    refine congrArg BitVec.ofBool ?_
    show decide ((BitVec.ofNat 32 k.val).toInt ≤ (BitVec.ofNat 32 b.val).toInt) = _
    rw [StableHlo.Predicate.toInt_ofNat_small _ (by omega), StableHlo.Predicate.toInt_ofNat_small _ (by omega)]
    simp
  refine Eq.trans ?_ (bit_num (k.val ≤ b.val))
  exact congrArg (fun w : BitVec 1 => (FloatOps.sitofp (F := Ideal) .f32 (w.setWidth 32) : EReal)) hw

theorem column_apply {α : Type} {n : ℕ} (v : S1024x1.Idx → α) (h : S1024x1.Broadcasts ⟨2, ![1024, n]⟩) (b : Fin 1024) (k : Fin n) :
    broadcastTo ⟨2, ![1024, n]⟩ v h (ix2 b k) = v (ix2 b (0 : Fin 1)) :=
  broadcastTo_apply v h (ix2 b k) (ix2 b (0 : Fin 1)) fun ax => by
    match ax with
    | ⟨0, _⟩ => rfl
    | ⟨1, _⟩ => rfl

theorem and_bits (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem hotK_apply (hl : ∀ b, L (ix2 b (0 : Fin 1)) = l b) (b j : Fin 1024) :
    (hotK L (ix2 b j) : EReal) = (((if count (stored l) b.val = j.val + 1 ∧ stored l b.val = 1 then 1 else 0 : ℕ) : ℝ) : EReal) := by
  have h1 : cmpf .oeq (broadcastTo S1024x1024 (subf (countK L) (broadcast S1024x1 (Scalar.ofBits .f32 0x3F800000#32 : Ideal .f32))) broadcasts_S1024x1_S1024x1024) (sitofp .f32 colsK : FVec Ideal S1024x1024 .f32) (ix2 b j)
      = BitVec.ofBool (decide (count (stored l) b.val = j.val + 1)) := by
    show Ideal.cmp .oeq _ _ = _
    have e1 : (broadcastTo S1024x1024 (subf (countK L) (broadcast S1024x1 (Scalar.ofBits .f32 0x3F800000#32 : Ideal .f32))) broadcasts_S1024x1_S1024x1024 (ix2 b j) : EReal)
        = (((count (stored l) b.val : ℝ) - 1 : ℝ) : EReal) := by
      refine (column_apply _ _ b j).trans ?_
      show (countK L (ix2 b (0 : Fin 1)) : EReal) - Ideal.ofBits .f32 0x3F800000#32 = _
      rw [countK_apply hl, Ideal.ofBits_one_f32, EReal.coe_sub, EReal.coe_one]
    have e2 : ((sitofp .f32 colsK : FVec Ideal S1024x1024 .f32) (ix2 b j) : EReal) = ((j.val : ℝ) : EReal) := by
      refine Eq.trans ?_ (word_num j.isLt)
      exact congrArg (fun w : BitVec 32 => (FloatOps.sitofp (F := Ideal) .f32 w : EReal)) (colsK_apply b j)
    unfold Ideal.cmp
    refine congrArg BitVec.ofBool ?_
    simp only [e1, e2, EReal.coe_eq_coe_iff, decide_eq_decide]
    rw [sub_eq_iff_eq_add]
    exact_mod_cast Iff.rfl
  have h2 : broadcastTo S1024x1024 (cmpf .ogt (flagK L) (broadcast S1024x1 (Scalar.ofBits .f32 0x00000000#32 : Ideal .f32))) broadcasts_S1024x1_S1024x1024 (ix2 b j)
      = BitVec.ofBool (decide (stored l b.val = 1)) := by
    refine (column_apply _ _ b j).trans ?_
    show Ideal.cmp .ogt (flagK L (ix2 b (0 : Fin 1))) (Ideal.ofBits .f32 0x00000000#32) = _
    rw [flagK_apply hl, Ideal.ofBits_zero_f32]
    unfold Ideal.cmp
    refine congrArg BitVec.ofBool ?_
    have := stored_le l b.val
    rw [decide_eq_decide, EReal.coe_pos, Nat.cast_pos]
    omega
  refine Eq.trans ?_ (bit_num (count (stored l) b.val = j.val + 1 ∧ stored l b.val = 1))
  rw [← and_bits, ← h1, ← h2]
  rfl

theorem totalK_eq (hl : ∀ b, L (ix2 b (0 : Fin 1)) = l b) : (totalK L : EReal) = ((count (stored l) 1023 : ℝ) : EReal) := by
  refine (Ideal.multiReduction_add_total (shapeCast S1x1024x1 (flagK L) shapeCasts_S1024x1_S1x1024x1) 0x00000000#32 reduces_S1x1024x1_S1 (by decide) (.inl rfl) rfl _).trans ?_
  refine (Equiv.sum_comp (Shape.reshapeEquiv shapeCasts_S1024x1_S1x1024x1) (flagK L)).trans ?_
  refine (sum_idx2 (n0 := 1024) (n1 := 1) (flagK L)).trans ?_
  rw [← count_all, coe_count]
  refine Finset.sum_congr rfl fun b _ => ?_
  rw [Fin.sum_univ_one, flagK_apply hl]

theorem pick_apply (A : FVec Ideal S1024x1024 .f32) (E : FVec Ideal S1024x32 .f32) (j : Fin 1024) (d : Fin 32) :
    (matmul dot_S1024x1024_S1024x32_S1024x32_0_0_1_1_n_n none A E (constant S1024x32 .f32 0x00000000#32) (ix2 j d) : EReal)
      = ∑ b : Fin 1024, (A (ix2 b j) : EReal) * E (ix2 b d) := by
  have hr : dot_S1024x1024_S1024x32_S1024x32_0_0_1_1_n_n.contr.rank = 1 := rfl
  have hs : dot_S1024x1024_S1024x32_S1024x32_0_0_1_1_n_n.contr.size ⟨0, by omega⟩ = 1024 := rfl
  refine (Ideal.matmul_apply dot_S1024x1024_S1024x32_S1024x32_0_0_1_1_n_n none A E _ (ix2 j d)).trans ?_
  rw [show (constant (F := Ideal) S1024x32 .f32 0x00000000#32) (ix2 j d) = (0 : EReal) from Ideal.ofBits_zero_f32, zero_add,
    ← Equiv.sum_comp (contrEquiv1 dot_S1024x1024_S1024x32_S1024x32_0_0_1_1_n_n 1024 hr hs).symm]
  refine Finset.sum_congr rfl fun b _ => ?_
  have hk := contrEquiv1_symm_val dot_S1024x1024_S1024x32_S1024x32_0_0_1_1_n_n 1024 hr hs b
  have el : dot_S1024x1024_S1024x32_S1024x32_0_0_1_1_n_n.lhsIdx (ix2 j d) ((contrEquiv1 dot_S1024x1024_S1024x32_S1024x32_0_0_1_1_n_n 1024 hr hs).symm b) = ix2 b j := by
    funext a; apply Fin.ext
    match a with
    | ⟨0, _⟩ => exact hk
    | ⟨1, _⟩ => rfl
  have er : dot_S1024x1024_S1024x32_S1024x32_0_0_1_1_n_n.rhsIdx (ix2 j d) ((contrEquiv1 dot_S1024x1024_S1024x32_S1024x32_0_0_1_1_n_n 1024 hr hs).symm b) = ix2 b d := by
    funext a; apply Fin.ext
    match a with
    | ⟨0, _⟩ => exact hk
    | ⟨1, _⟩ => rfl
  rw [el, er]

/-- The first rows by the count of the batch. -/
theorem pay3_apply (hl : ∀ b, L (ix2 b (0 : Fin 1)) = l b) (E T : Vec Ideal S1024x32 .f32) (j : Fin 1024) (d : Fin 32) :
    (k3_pay2 L E T (ix2 j d) : EReal) = if j.val < count (stored l) 1023 then
      ∑ b : Fin 1024, (((if count (stored l) b.val = j.val + 1 ∧ stored l b.val = 1 then 1 else 0 : ℕ) : ℝ) : EReal) * E (ix2 b d) else T (ix2 j d) := by
  rw [pay3_parts]
  have hc : broadcastTo S1024x32 (cmpf .olt (sitofp .f32 (iota .tc S1024x1 32 [0] iota_S1024x1_d0_w32) : FVec Ideal S1024x1 .f32) (broadcast S1024x1 (totalK L))) broadcasts_S1024x1_S1024x32 (ix2 j d)
      = BitVec.ofBool (decide (j.val < count (stored l) 1023)) := by
    refine (column_apply _ _ j d).trans ?_
    show Ideal.cmp .olt _ (totalK L) = _
    have e2 : ((sitofp .f32 (iota .tc S1024x1 32 [0] iota_S1024x1_d0_w32) : FVec Ideal S1024x1 .f32) (ix2 j (0 : Fin 1)) : EReal) = ((j.val : ℝ) : EReal) := by
      refine Eq.trans ?_ (word_num j.isLt)
      refine congrArg (fun w : BitVec 32 => (FloatOps.sitofp (F := Ideal) .f32 w : EReal)) ?_
      show BitVec.ofNat 32 (0 * 1024 + j.val) = _
      rw [Nat.zero_mul, Nat.zero_add]
    unfold Ideal.cmp
    refine congrArg BitVec.ofBool ?_
    simp only [e2, totalK_eq hl, EReal.coe_lt_coe_iff, Nat.cast_lt]
  show Scalar.select _ _ _ = _
  rw [hc, pick_apply]
  by_cases h : j.val < count (stored l) 1023
  · rw [if_pos h, decide_eq_true h]
    refine Eq.trans (b := ∑ b : Fin 1024, (hotK L (ix2 b j) : EReal) * (E (ix2 b d) : EReal)) rfl ?_
    exact Finset.sum_congr rfl fun b _ => congrArg (· * (E (ix2 b d) : EReal)) (hotK_apply hl b j)
  · rw [if_neg h, decide_eq_false h]
    rfl

/-- A row given an encoding holds it. -/
theorem pay3_hit (hl : ∀ b, L (ix2 b (0 : Fin 1)) = l b) (E T : Vec Ideal S1024x32 .f32) (j : Fin 1024) (d : Fin 32) (b : Fin 1024)
    (h1 : stored l b.val = 1) (hc : count (stored l) b.val = j.val + 1) : (k3_pay2 L E T (ix2 j d) : EReal) = E (ix2 b d) := by
  have hb := b.isLt
  rw [pay3_apply hl, if_pos ((count_iff (stored_le l) j.val 1023).2 ⟨b.val, by omega, h1, hc⟩)]
  refine (Finset.sum_eq_single (f := fun b' : Fin 1024 => ((((if count (stored l) b'.val = j.val + 1 ∧ stored l b'.val = 1 then 1 else 0 : ℕ) : ℝ) : EReal)
    * (E (ix2 b' d) : EReal) : EReal)) b (fun b' _ hb' => ?_) (fun h => absurd (Finset.mem_univ b) h)).trans ?_
  rotate_left
  · rw [if_pos ⟨hc, h1⟩]
    simp
  · rw [if_neg fun h => hb' (Fin.ext (count_inj h.2 h1 (h.1.trans hc.symm)))]
    simp

/-- A row given none is kept. -/
theorem pay3_miss (hl : ∀ b, L (ix2 b (0 : Fin 1)) = l b) (E T : Vec Ideal S1024x32 .f32) (j : Fin 1024) (d : Fin 32)
    (h : ∀ b : Fin 1024, ¬(stored l b.val = 1 ∧ count (stored l) b.val = j.val + 1)) : (k3_pay2 L E T (ix2 j d) : EReal) = T (ix2 j d) := by
  rw [pay3_apply hl, if_neg fun hj => ?_]
  obtain ⟨b, hb, h1, h2⟩ := (count_iff (stored_le l) j.val 1023).1 hj
  exact h ⟨b, by omega⟩ ⟨h1, h2⟩

end Cert.KernelIdeal.Body
-- ==== Proof.Placed.lean ====
/- The reference's new memory: a stored encoding is put at the row of its number, and no other row changes. -/
module

public import proofs.«01_k».proof.Proof.RefMath
public import proofs.«01_k».proof.Proof.FixValue
public import Idealize.ShloMosaic.Lib.Routing.OpsSet

@[expose] public section

set_option maxRecDepth 16384

noncomputable section

namespace Cert.ReferenceIdeal.Body

open Cert.ReferenceIdeal Cert.ReferenceIdeal.Gen
open Idealize.ShloMosaic
open Idealize.ShloMosaic.TcCoe Idealize.ShloMosaic.ValueIdx
open Cert.KernelIdeal.Body (stored stored_le count count_pos count_le count_inj)

/-- How the rows are scattered. -/
abbrev dimsR : ScatterDims S100000x32 S1024x1 S1024x32 := scatter_S100000x32_S1024x1_S1024x32_1_0_0_1

/-- An update's row is its index word, read signed. -/
theorem row_of (idx : IVec S1024x1 32) (b : Fin 1024) (d' : Fin 32) :
    dimsR.start (ix2 b d') idx 0 + (dimsR.window (ix2 b d') 0 : Int) = (idx (ix2 b (0 : Fin 1))).toInt := by
  have hw0 : dimsR.window (ix2 b d') 0 = 0 := rfl
  have hs0 : dimsR.start (ix2 b d') idx 0 = (idx (ix2 b (0 : Fin 1))).toInt := by
    refine Eq.trans (b := (idx (dimsR.siIdx (ix2 b d') ⟨0, by decide⟩)).toInt) rfl ?_
    refine congrArg (fun i => (idx i).toInt) (funext fun a => ?_)
    match a with
    | ⟨0, _⟩ => rfl
    | ⟨1, _⟩ => rfl
  rw [hs0, hw0, Nat.cast_zero, Int.add_zero]

/-- An update's column is its own. -/
theorem col_of (idx : IVec S1024x1 32) (b : Fin 1024) (d' : Fin 32) :
    dimsR.start (ix2 b d') idx 1 + (dimsR.window (ix2 b d') 1 : Int) = (d'.val : Int) := by
  have hw1 : dimsR.window (ix2 b d') 1 = d'.val := rfl
  have hs1 : dimsR.start (ix2 b d') idx 1 = 0 := rfl
  rw [hs1, hw1, Int.zero_add]

/-- An update lands at the row its index word, read signed, names, in its own column. -/
theorem lands (idx : IVec S1024x1 32) (b : Fin 1024) (d' : Fin 32) (j : Fin 100000) (d : Fin 32) :
    dimsR.resultIdx? (ix2 b d') idx = some (ix2 j d) ↔ (idx (ix2 b (0 : Fin 1))).toInt = (j.val : Int) ∧ d' = d := by
  have t0 := row_of idx b d'
  have t1 := col_of idx b d'
  have hd' := d'.isLt
  have hj := j.isLt
  unfold ScatterDims.resultIdx?
  split
  · next h =>
    have h0 : 0 ≤ dimsR.start (ix2 b d') idx 0 + (dimsR.window (ix2 b d') 0 : Int) := (h 0).1
    constructor
    · intro e
      have e0 : (dimsR.start (ix2 b d') idx 0 + (dimsR.window (ix2 b d') 0 : Int)).toNat = j.val := congrArg Fin.val (congrFun (Option.some.inj e) 0)
      have e1 : (dimsR.start (ix2 b d') idx 1 + (dimsR.window (ix2 b d') 1 : Int)).toNat = d.val := congrArg Fin.val (congrFun (Option.some.inj e) 1)
      exact ⟨by omega, Fin.ext (by omega)⟩
    · rintro ⟨e, rfl⟩
      refine congrArg some (funext fun a => Fin.ext ?_)
      match a with
      | ⟨0, _⟩ =>
        show (dimsR.start (ix2 b d') idx 0 + (dimsR.window (ix2 b d') 0 : Int)).toNat = j.val
        omega
      | ⟨1, _⟩ =>
        show (dimsR.start (ix2 b d') idx 1 + (dimsR.window (ix2 b d') 1 : Int)).toNat = d'.val
        omega
  · next h =>
    constructor
    · intro e; cases e
    · rintro ⟨e, rfl⟩
      refine (h fun a => ?_).elim
      match a with
      | ⟨0, _⟩ =>
        show 0 ≤ dimsR.start (ix2 b d') idx 0 + (dimsR.window (ix2 b d') 0 : Int) ∧ dimsR.start (ix2 b d') idx 0 + (dimsR.window (ix2 b d') 0 : Int) < ((100000 : ℕ) : Int)
        omega
      | ⟨1, _⟩ =>
        show 0 ≤ dimsR.start (ix2 b d') idx 1 + (dimsR.window (ix2 b d') 1 : Int) ∧ dimsR.start (ix2 b d') idx 1 + (dimsR.window (ix2 b d') 1 : Int) < ((32 : ℕ) : Int)
        omega

/-- The remainder of one word by the memory's length, brought to the length's sign. -/
def modW (w : BitVec 32) : BitVec 32 :=
  Scalar.select (IntOp.andi (IntOp.cmpi .ne (IntOp.cmpi .slt (IntOp.remsi .host w 100000#32) 0#32) (IntOp.cmpi .slt (100000#32 : BitVec 32) 0#32))
    (IntOp.cmpi .ne (IntOp.remsi .host w 100000#32) 0#32)) (IntOp.addi (IntOp.remsi .host w 100000#32) 100000#32) (IntOp.remsi .host w 100000#32)

theorem modW_small : ∀ n : Fin 1024, modW (BitVec.ofNat 32 n.val) = BitVec.ofNat 32 n.val := by decide +kernel

/-- A row's word as the scatter takes it. -/
def wrapW (w : BitVec 32) : BitVec 32 := Scalar.select (IntOp.cmpi .slt w 0#32) (IntOp.addi w 100000#32) w

theorem wrapW_small : ∀ n : Fin 1024, wrapW (BitVec.ofNat 32 n.val) = BitVec.ofNat 32 n.val := by decide +kernel
theorem wrapW_len : wrapW 100000#32 = 100000#32 := by decide +kernel

theorem lenR_word : lenR = fun _ => 100000#32 := by
  funext i
  show Scalar.select (IntOp.cmpi .eq (100000#32 : BitVec 32) 0#32) (1#32 : BitVec 32) 100000#32 = 100000#32
  decide +kernel

theorem modR_apply (n : IVec S1024 32) (i : S1024.Idx) : modR n i = modW (n i) := by
  unfold modR cutR
  rw [lenR_word]
  rfl

variable (L : FVec Ideal S1024 .f32) {l : Fin 1024 → EReal}

theorem maskR_apply (hl : ∀ b, L (ix1 b) = l b) (b : Fin 1024) : maskR L (ix1 b) = if stored l b.val = 1 then 1#1 else 0#1 := by
  classical
  have e : maskR L (ix1 b) = BitVec.ofBool (decide ((L (ix1 b) : EReal) ≤ Ideal.ofBits .f32 0x3F800000#32)) :=
    congrArg BitVec.ofBool (decide_eq_decide.2 Iff.rfl)
  rw [e, Ideal.ofBits_one_f32, hl]
  unfold stored
  rw [dif_pos b.isLt]
  by_cases h : l b ≤ 1
  · rw [if_pos h, if_pos rfl, decide_eq_true h]; rfl
  · rw [if_neg h, if_neg Nat.zero_ne_one, decide_eq_false h]; rfl

theorem numR_apply (hl : ∀ b, L (ix1 b) = l b) (b : Fin 1024) (h1 : stored l b.val = 1) : numR L (ix1 b) = BitVec.ofNat 32 (count (stored l) b.val - 1) := by
  have hx : ∀ i : Fin 1024, extui 32 (maskR L) natLt_1_32 (ix1 i) = BitVec.ofNat 32 (stored l i.val) := fun i => by
    show (maskR L (ix1 i)).setWidth 32 = _
    rw [maskR_apply L hl]
    have := stored_le l i.val
    by_cases h : stored l i.val = 1
    · rw [if_pos h, h]; rfl
    · rw [if_neg h, show stored l i.val = 0 by omega]; rfl
  have hc := Routing.cumsum1 (N := 1024) (Nm1 := 1023) rfl (extui 32 (maskR L) natLt_1_32) (stored l) hx (broadcastInDim S_ ![] bcast_S_S_ (constantI S_ 32 0#32)) rfl
    reduceWindows_S1024_S1024_w1024s1p1023_0 h_S_ b
  have hp := count_pos h1
  have hs : ((List.range (b.val + 1)).map (stored l)).sum = count (stored l) b.val := rfl
  unfold numR
  refine (congrArg (fun w : BitVec 32 => w - 1#32) hc).trans ?_
  rw [hs]
  obtain ⟨k, hk⟩ : ∃ k, count (stored l) b.val = k + 1 := ⟨count (stored l) b.val - 1, by omega⟩
  rw [hk, Nat.add_sub_cancel, BitVec.ofNat_add]
  exact BitVec.add_sub_cancel _ _

theorem idxR_apply (b : Fin 1024) : idxR L (ix2 b (0 : Fin 1)) = wrapW (posR L (ix1 b)) :=
  broadcastInDim_apply _ _ _ (ix2 b (0 : Fin 1)) (ix1 b) fun a => by
    match a with
    | ⟨0, _⟩ => rfl

theorem posR_apply (b : Fin 1024) : posR L (ix1 b) = Scalar.select (maskR L (ix1 b)) (modW (numR L (ix1 b))) 100000#32 := by
  unfold posR
  show Scalar.select _ (modR (numR L) (ix1 b)) _ = _
  rw [modR_apply]
  rfl

/-- The row an encoding goes to. -/
theorem idxR_num (hl : ∀ b, L (ix1 b) = l b) (b : Fin 1024) (j : Fin 100000) :
    (idxR L (ix2 b (0 : Fin 1))).toInt = (j.val : Int) ↔ stored l b.val = 1 ∧ count (stored l) b.val = j.val + 1 := by
  rw [idxR_apply, posR_apply, maskR_apply L hl]
  have hj := j.isLt
  by_cases h : stored l b.val = 1
  · have hp := count_pos h
    have hle := count_le (stored_le l) b.val
    have hb := b.isLt
    have hn : count (stored l) b.val - 1 < 1024 := by omega
    rw [if_pos h, numR_apply L hl b h, modW_small ⟨_, hn⟩]
    show (wrapW (BitVec.ofNat 32 _)).toInt = _ ↔ _
    rw [wrapW_small ⟨_, hn⟩]
    show (BitVec.ofNat 32 (count (stored l) b.val - 1)).toInt = _ ↔ _
    rw [StableHlo.Predicate.toInt_ofNat_small _ (by omega)]
    omega
  · rw [if_neg h]
    show (wrapW 100000#32).toInt = _ ↔ _
    rw [wrapW_len, show (100000#32 : BitVec 32).toInt = 100000 from by decide +kernel]
    omega

variable (E : FVec Ideal S1024x32 .f32) (M : FVec Ideal S100000x32 .f32)

theorem outR_hit (hl : ∀ b, L (ix1 b) = l b) (j : Fin 100000) (d : Fin 32) (b : Fin 1024) (h1 : stored l b.val = 1) (hc : count (stored l) b.val = j.val + 1) :
    (outR L E M (ix2 j d) : EReal) = E (ix2 b d) :=
  Routing.scatter_set_hit _ M (idxR L) E (ix2 j d) _ (fun k hk => by
    obtain ⟨b', d', rfl⟩ : ∃ (b' : Fin 1024) (d' : Fin 32), k = ix2 b' d' := ⟨k 0, k 1, eq_ix2 k⟩
    obtain ⟨hi, rfl⟩ := (lands (idxR L) b' d' j d).1 hk
    obtain ⟨h1', hc'⟩ := (idxR_num L hl b' j).1 hi
    obtain rfl : b' = b := Fin.ext (count_inj h1' h1 (hc'.trans hc.symm))
    rfl) (ix2 b d) ((lands (idxR L) b d j d).2 ⟨(idxR_num L hl b j).2 ⟨h1, hc⟩, rfl⟩)

theorem outR_miss (hl : ∀ b, L (ix1 b) = l b) (j : Fin 100000) (d : Fin 32)
    (h : ∀ b : Fin 1024, ¬(stored l b.val = 1 ∧ count (stored l) b.val = j.val + 1)) : (outR L E M (ix2 j d) : EReal) = M (ix2 j d) :=
  Routing.scatter_set_miss _ M (idxR L) E (ix2 j d) fun k hk => by
    obtain ⟨b', d', rfl⟩ : ∃ (b' : Fin 1024) (d' : Fin 32), k = ix2 b' d' := ⟨k 0, k 1, eq_ix2 k⟩
    exact h b' ((idxR_num L hl b' j).1 ((lands (idxR L) b' d' j d).1 hk).1)

end Cert.ReferenceIdeal.Body
-- ==== Proof.Same.lean ====
/- The kernel's results are the reference's, over the extended reals. -/
module

public import proofs.«01_k».proof.Proof.Placed
public import proofs.«01_k».proof.Proof.Kept

@[expose] public section

set_option maxRecDepth 16384

noncomputable section

namespace Cert.KernelIdeal.Body

open Cert.KernelIdeal Cert.KernelIdeal.Gen
open Idealize.ShloMosaic Idealize.SL.Sem
open Idealize.ShloMosaic.TcCoe Idealize.ShloMosaic.ValueIdx
open Cert.ReferenceIdeal.Body (encRm memRm encR lossR outR le_lossR enc_same outR_hit outR_miss)

variable {W : Valuation τ sig (Elt Ideal)} {c : Dev nD} {E : Vec Ideal S1024x32 .f32} {M : Vec Ideal S100000x32 .f32}

theorem loss_same (hE : encA W = E) (hM : ∀ (d : Fin 32) (j : Fin 100352) (hj : j.val < 100000), mtA W (ix2 d j) = M (ix2 ⟨j.val, hj⟩ d)) (b : Fin 1024) :
    (k2_pay2 (acc (fun _ => W) c 196) (ix2 b (0 : Fin 1)) : EReal) = lossR E M (ix1 b) :=
  eq_of_forall_le_iff fun z => (le_loss hE hM z b).trans (le_lossR E M z b).symm

/-- The rows of the new memory. -/
theorem memory_same {L : Vec Ideal S1024x1 .f32} {L' : FVec Ideal S1024 .f32} (h : ∀ b : Fin 1024, (L (ix2 b (0 : Fin 1)) : EReal) = L' (ix1 b)) (j : Fin 100000) (d : Fin 32) :
    ((if h : j.val < 1024 then k3_pay2 L E (topRows M) (ix2 ⟨j.val, h⟩ d) else M (ix2 j d) : Ideal .f32) : EReal) = outR L' E M (ix2 j d) := by
  by_cases hex : ∃ b : Fin 1024, stored (fun b => L' (ix1 b)) b.val = 1 ∧ count (stored fun b => L' (ix1 b)) b.val = j.val + 1
  · obtain ⟨b, h1, hc⟩ := hex
    have hle := count_le (stored_le fun b => L' (ix1 b)) b.val
    have hb := b.isLt
    have hj : j.val < 1024 := by omega
    rw [dif_pos hj]
    exact (pay3_hit h E (topRows M) ⟨j.val, hj⟩ d b h1 hc).trans (outR_hit L' E M (fun _ => rfl) j d b h1 hc).symm
  · have hno : ∀ b : Fin 1024, ¬(stored (fun b => L' (ix1 b)) b.val = 1 ∧ count (stored fun b => L' (ix1 b)) b.val = j.val + 1) := fun b hb => hex ⟨b, hb⟩
    refine Eq.trans ?_ (outR_miss L' E M (fun _ => rfl) j d hno).symm
    by_cases hj : j.val < 1024
    · rw [dif_pos hj]
      exact pay3_miss h E (topRows M) ⟨j.val, hj⟩ d hno
    · rw [dif_neg hj]

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Two launches with the same arguments. -/
def SameArgs : Prop := ∀ c : Dev nD,
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)

variable {m m'}

theorem encM_same (h : SameArgs m m') (c : Dev nD) : encM m c = encRm m' c := by
  obtain ⟨h0, h1, h2, _, h4, h5⟩ := h c
  unfold encM encRm
  rw [h0, h1, h2, h4, h5]
  exact enc_same _ _ _ _ _

theorem memM_same (h : SameArgs m m') (c : Dev nD) : memM m c = memRm m' c := (h c).2.2.2.1.symm

/-- The results the last step leaves. -/
theorem results (h : SameArgs m m') {c : Dev nD} {V : Valuation τ sig (Elt Ideal)} (hV : At7 m c V) :
    resA V = lossR (encRm m' c) (memRm m' c) ∧ outA V = outR (lossR (encRm m' c) (memRm m' c)) (encRm m' c) (memRm m' c) := by
  obtain ⟨W, hE, hM, hr, ho⟩ := ends hV
  rw [← encM_same h c, ← memM_same h c]
  have hl : ∀ b : Fin 1024, (k2_pay2 (acc (fun _ => W) c 196) (ix2 b (0 : Fin 1)) : EReal) = lossR (encM m c) (memM m c) (ix1 b) := loss_same hE hM
  generalize k2_pay2 (acc (fun _ => W) c 196) = L at hl hr ho
  refine ⟨?_, ?_⟩
  · rw [hr]
    funext i
    obtain ⟨b, rfl⟩ : ∃ b : Fin 1024, i = ix1 b := ⟨i 0, eq_ix1 i⟩
    refine Eq.trans ?_ (hl b)
    exact shapeCast_apply L _ _ _ (by
      rw [Shape.rowMajor_val_two, Shape.rowMajor_val_one]
      show b.val * 1 + 0 = b.val
      omega)
  · funext i
    obtain ⟨j, d, rfl⟩ : ∃ (j : Fin 100000) (d : Fin 32), i = ix2 j d := ⟨i 0, i 1, eq_ix2 i⟩
    exact (ho j d).trans (memory_same hl j d)

/-- The runs end with the reference's results. -/
theorem run_same (h : SameArgs m m') (ρ : Dev nD → PrngReg) :
    θ_run defs (onTc (τ := τ) (main (F := Ideal))) ⟨m, fun _ => 0, ρ⟩ (fun r => ∀ c : Dev nD,
      r.2.mem ((c.tc : Thread nD τ).loc main_v7) = lossR (encRm m' c) (memRm m' c)
      ∧ r.2.mem ((c.tc : Thread nD τ).loc main_v6) = outR (lossR (encRm m' c) (memRm m' c)) (encRm m' c) (memRm m' c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r hr c => by
    obtain ⟨V, hV, hm⟩ := hr.1 c
    have one : ∀ r' : Ref sig .tc, r' ∉ written → r'.isScoped = false → r.2.mem ((c.tc : Thread nD τ).loc r') = m ((c.tc : Thread nD τ).loc r') :=
      fun r' hw hs => (hm _ (mem_unscoped r' hs)).trans (unwritten m hV r' hw)
    obtain ⟨h7, h6⟩ := results h hV
    exact ⟨(hm _ (mem_unscoped main_v7 (by decide))).trans h7, (hm _ (mem_unscoped main_v6 (by decide))).trans h6,
      one _ (by decide) (by decide), one _ (by decide) (by decide), one _ (by decide) (by decide), one _ (by decide) (by decide),
      one _ (by decide) (by decide), one _ (by decide) (by decide)⟩) (run m ρ)

end Cert.KernelIdeal.Body

end
-- ==== Proof.lean ====
/- The claims about the kernel and its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kept
public import proofs.«01_k».proof.Proof.Bits.Kept
public import proofs.«01_k».proof.Proof.Same
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m g _ => Cert.Kernel.Body.frame m g

theorem frame_ideal : Cert.quiescent_KernelIdeal (hKernelIdeal := Cert.KernelIdeal.Gen.facts) := fun m g _ => Cert.KernelIdeal.Body.frame m g

theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

theorem named : Cert.preserves_Kernel_KernelIdeal :=
  ⟨IdealRules.named_const.statement _ _ _ _ _ rfl, IdealRules.named_const.statement _ _ _ _ _ rfl⟩

theorem algebraic : Cert.algebraic_KernelIdeal_ReferenceIdeal (hKernelIdeal := Cert.KernelIdeal.Gen.facts) (hReferenceIdeal := Cert.ReferenceIdeal.Gen.facts) :=
  fun m g m' g' _ h =>
    ⟨fun c => Cert.ReferenceIdeal.Body.lossR (Cert.ReferenceIdeal.Body.encRm m' c) (Cert.ReferenceIdeal.Body.memRm m' c),
      fun c => Cert.ReferenceIdeal.Body.outR (Cert.ReferenceIdeal.Body.lossR (Cert.ReferenceIdeal.Body.encRm m' c) (Cert.ReferenceIdeal.Body.memRm m' c))
        (Cert.ReferenceIdeal.Body.encRm m' c) (Cert.ReferenceIdeal.Body.memRm m' c),
      Cert.KernelIdeal.Body.run_same h g, Cert.ReferenceIdeal.Body.runR m' g'⟩

theorem claim : Cert.Claim := ⟨Cert.Kernel.Gen.facts, Cert.KernelIdeal.Gen.facts, Cert.ReferenceIdeal.Gen.facts,
  frame_kernel, frame_ideal, frame_reference, named, algebraic⟩

end Cert.Proof

end
